-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 4] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 4] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 4] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S2x512x64 : Shape := ⟨3, ![2, 512, 64]⟩
abbrev S2x128x1024 : Shape := ⟨3, ![2, 128, 1024]⟩
abbrev S512x1024 : Shape := ⟨2, ![512, 1024]⟩
abbrev S2 : Shape := ⟨1, ![2]⟩
abbrev S_ : Shape := ⟨0, ![]⟩
abbrev S1x64x1024 : Shape := ⟨3, ![1, 64, 1024]⟩
abbrev S1 : Shape := ⟨1, ![1]⟩
abbrev S1x128x1024 : Shape := ⟨3, ![1, 128, 1024]⟩
abbrev S128x1024 : Shape := ⟨2, ![128, 1024]⟩
abbrev S512x64 : Shape := ⟨2, ![512, 64]⟩
abbrev S1x512x64 : Shape := ⟨3, ![1, 512, 64]⟩
abbrev S512x512 : Shape := ⟨2, ![512, 512]⟩
abbrev S512x32 : Shape := ⟨2, ![512, 32]⟩
abbrev S256x32 : Shape := ⟨2, ![256, 32]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S256x1024 : Shape := ⟨2, ![256, 1024]⟩
abbrev S1x256x1024 : Shape := ⟨3, ![1, 256, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S2x512x64, .bf16⟩
  | .local _ .vmem, ⟨10, _⟩ => ⟨S2x128x1024, .bf16⟩
  | .local _ .vmem, ⟨11, _⟩ => ⟨S512x1024, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_21 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_20 : BitVec 32 := 8#32
  let v27 : BitVec 32 := Scalar.muli v9 c8_i32_20
  let v28 : BitVec 32 := Scalar.addi c0_i32_21 v27
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_22 : BitVec 32 := 4#32
  let v29 : BitVec 32 := Scalar.muli v5 c4_i32_22
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_23 : BitVec 32 := 1#32
  let v31 : BitVec 32 := Scalar.muli v8 c1_i32_23
  let v32 : BitVec 32 := Scalar.addi v30 v31
  v32.toNat
def k0_dev3 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v51 : BitVec 32 := Scalar.muli v9 c8_i32_40
  let v52 : BitVec 32 := Scalar.addi c0_i32_41 v51
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v53 : BitVec 32 := Scalar.muli v5 c4_i32_42
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v55 : BitVec 32 := Scalar.muli v8 c1_i32_43
  let v56 : BitVec 32 := Scalar.addi v54 v55
  v56.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 49
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x128, .bf16⟩
  | .hbm, ⟨2, _⟩ => ⟨S128x1024, .bf16⟩
  | .hbm, ⟨3, _⟩ => ⟨S128x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x128, .f32⟩
  | .hbm, ⟨10, _⟩ => ⟨S128x1024, .f32⟩
  | .hbm, ⟨11, _⟩ => ⟨S128x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x128, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S2x16x256x256, .f32⟩
  | .hbm, ⟨28, _⟩ => ⟨S2x256x16x32, .f32⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S2x16x256x256, .f32⟩
  | .hbm, ⟨33, _⟩ => ⟨S2x16x256x256, .f32⟩
  | .hbm, ⟨34, _⟩ => ⟨S_, .f32⟩
  | .hbm, ⟨35, _⟩ => ⟨S2x16x256, .f32⟩
  | .hbm, ⟨36, _⟩ => ⟨S2x16x256x1, .f32⟩
  | .hbm, ⟨37, _⟩ => ⟨S2x16x256x256, .f32⟩
  | .hbm, ⟨38, _⟩ => ⟨S2x16x256x256, .f32⟩
  | .hbm, ⟨39, _⟩ => ⟨S2x16x256x256, .f32⟩
  | .hbm, ⟨40, _⟩ => ⟨S_, .f32⟩
  | .hbm, ⟨41, _⟩ => ⟨S2x16x256, .f32⟩
  | .hbm, ⟨42, _⟩ => ⟨S2x16x256x1, .f32⟩
  | .hbm, ⟨43, _⟩ => ⟨S2x16x256x256, .f32⟩
  | .hbm, ⟨44, _⟩ => ⟨S2x16x256x256, .f32⟩
  | .hbm, ⟨45, _⟩ => ⟨S2x16x64x256, .f32⟩
  | .hbm, ⟨46, _⟩ => ⟨S2x256x16x64, .f32⟩
  | .hbm, ⟨47, _⟩ => ⟨S2x256x1024, .f32⟩
  | .hbm, ⟨48, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Protocol.lean ====
/-
# The exchange of the two devices of a pair

Device `c` of the sixteen works with the device `peer c` eight places on (its mate along the mesh's first axis). Each
signals the other on the barrier semaphore, waits for the other's signal, then sends it its two small weight blocks
(slot 0 of the weight buffer into the other's slot 1) and its compressed activations (slot 0 of the compressed buffer
into the other's slot 1). This module states the exchange for the rounds library: the pairing, the four slots, what
each buffer holds after the exchange, the schedule's five cells per device with what each pays, what each device owes
at launch and the levels that order the waits.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ReadBack
public import Idealize.ShloMosaic.Lib.Tactic
public import Idealize.ShloMosaic.Lib.ValueLayout

@[expose] public section

set_option maxRecDepth 16384

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The ghost state: the pipeline library's rounds beside the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-- The memory at launch: the given contents and generator registers, every semaphore counter zero. -/
def s₀ : MemSt nD τ sig (Elt F) := ⟨m, fun _ => 0, ρ⟩

/-! ## The pairing -/

/-- The device a device exchanges with: the one eight places on, around sixteen. -/
def peer (c : Dev nD) : Dev nD := ⟨(c.val + 8) % 16, Nat.mod_lt _ (by decide)⟩

/-- Pairing twice is the identity. -/
theorem peer_peer (c : Dev nD) : peer (peer c) = c := by revert c; decide

/-- The signal's device is the mate. -/
theorem dev1_eq (c : Dev nD) : (⟨k0_dev1 c, k0_dev1_lt c⟩ : Dev nD) = peer c :=
  Fin.ext ((k0_dev1_eq c).trans (by revert c; decide))
/-- The weight transfer's device is the mate. -/
theorem dev2_eq (c : Dev nD) : (⟨k0_dev2 c, k0_dev2_lt c⟩ : Dev nD) = peer c :=
  Fin.ext ((k0_dev2_eq c).trans (by revert c; decide))
/-- The compressed activations' transfer's device is the mate. -/
theorem dev3_eq (c : Dev nD) : (⟨k0_dev3 c, k0_dev3_lt c⟩ : Dev nD) = peer c :=
  Fin.ext ((k0_dev3_eq c).trans (by revert c; decide))

/-- The pairing as a permutation of the devices. -/
def swap : Dev nD ≃ Dev nD := ⟨peer, peer, peer_peer, peer_peer⟩

/-! ## The slots and the cells -/

/-- The weight buffer's and the compressed buffer's two slots, as the body names them. -/
abbrev w0M : Memref sig .tc .vmem S128x1024 .bf16 :=
  ((Memref.whole cc0_scratch1 : Memref sig .tc .vmem S2x128x1024 .bf16).slice (Rect.unit (s := S2x128x1024) ![0, 0, 0] S1x128x1024.size inb_S2x128x1024_S1x128x1024_0_0_0) (fun _ => rfl)).squeeze S128x1024 squeezes_S1x128x1024_S128x1024
abbrev w1M : Memref sig .tc .vmem S128x1024 .bf16 :=
  ((Memref.whole cc0_scratch1 : Memref sig .tc .vmem S2x128x1024 .bf16).slice (Rect.unit (s := S2x128x1024) ![1, 0, 0] S1x128x1024.size inb_S2x128x1024_S1x128x1024_1_0_0) (fun _ => rfl)).squeeze S128x1024 squeezes_S1x128x1024_S128x1024
abbrev c0M : Memref sig .tc .vmem S512x64 .bf16 :=
  ((Memref.whole cc0_scratch0 : Memref sig .tc .vmem S2x512x64 .bf16).slice (Rect.unit (s := S2x512x64) ![0, 0, 0] S1x512x64.size inb_S2x512x64_S1x512x64_0_0_0) (fun _ => rfl)).squeeze S512x64 squeezes_S1x512x64_S512x64
abbrev c1M : Memref sig .tc .vmem S512x64 .bf16 :=
  ((Memref.whole cc0_scratch0 : Memref sig .tc .vmem S2x512x64 .bf16).slice (Rect.unit (s := S2x512x64) ![1, 0, 0] S1x512x64.size inb_S2x512x64_S1x512x64_1_0_0) (fun _ => rfl)).squeeze S512x64 squeezes_S1x512x64_S512x64

/-- The barrier semaphore, and the two send and two receive semaphores. -/
abbrev barS : Sem sig := (SemArray.scalar (sig.barrier 0 rfl) : Sems sig S_).sem
abbrev sendW : DmaSem sig := ((cc0_scratch3.slice (Rect.unit (s := S2) ![0] S1.size inb_S2_S1_0)).squeeze S_ squeezes_S1_S_ : DmaSems sig S_).sem
abbrev sendC : DmaSem sig := ((cc0_scratch3.slice (Rect.unit (s := S2) ![1] S1.size inb_S2_S1_1)).squeeze S_ squeezes_S1_S_ : DmaSems sig S_).sem
abbrev recvW : DmaSem sig := ((cc0_scratch4.slice (Rect.unit (s := S2) ![0] S1.size inb_S2_S1_0)).squeeze S_ squeezes_S1_S_ : DmaSems sig S_).sem
abbrev recvC : DmaSem sig := ((cc0_scratch4.slice (Rect.unit (s := S2) ![1] S1.size inb_S2_S1_1)).squeeze S_ squeezes_S1_S_ : DmaSems sig S_).sem

abbrev barCell (c : Dev nD) : GSem nD τ sig := ((c : Thread nD τ), .reg barS)
abbrev sendWCell (c : Dev nD) : GSem nD τ sig := ((c : Thread nD τ), .dma sendW)
abbrev sendCCell (c : Dev nD) : GSem nD τ sig := ((c : Thread nD τ), .dma sendC)
abbrev recvWCell (c : Dev nD) : GSem nD τ sig := ((c : Thread nD τ), .dma recvW)
abbrev recvCCell (c : Dev nD) : GSem nD τ sig := ((c : Thread nD τ), .dma recvC)

/-- The launch's own (scoped) semaphores of the exchange, in the order the launch lists them; -/
abbrev osem : Fin 4 → SemLoc sig := fun | 0 => .dma sendW | 1 => .dma sendC | 2 => .dma recvW | 3 => .dma recvC
/-- and all five, the barrier first. -/
abbrev csem : Fin 5 → SemLoc sig := fun | 0 => .reg barS | 1 => .dma sendW | 2 => .dma sendC | 3 => .dma recvW | 4 => .dma recvC
abbrev kcell (ck : Dev nD × Fin 5) : GSem nD τ sig := ((ck.1 : Thread nD τ), csem ck.2)

/-- The two transfers' credits. -/
abbrev NW : ℕ := (w1M).view.dmaCredit
abbrev NC : ℕ := (c1M).view.dmaCredit
theorem NW_pos : 0 < NW := View.dmaCredit_pos _ (by decide)
theorem NC_pos : 0 < NC := View.dmaCredit_pos _ (by decide)

/-! ## Contents -/

/-- Device `c`'s staged inputs: what the pipeline fetched of its eight argument arrays. -/
def xIn (c : Dev nD) : (cc0_stg0_0 : Ref sig .tc).ty.Contents (Elt F) :=
  (win0_0.blk (0 : Fin 1)).view.read (Elt F) ((s₀ m ρ).mem ((c : Thread nD τ).loc main_arg0))
def wdkvIn (c : Dev nD) : (cc0_stg1_0 : Ref sig .tc).ty.Contents (Elt F) :=
  (win0_1.blk (0 : Fin 1)).view.read (Elt F) ((s₀ m ρ).mem ((c : Thread nD τ).loc main_arg1))
def wukIn (c : Dev nD) : (cc0_stg2_0 : Ref sig .tc).ty.Contents (Elt F) :=
  (win0_2.blk (0 : Fin 1)).view.read (Elt F) ((s₀ m ρ).mem ((c : Thread nD τ).loc main_arg2))
def wuvIn (c : Dev nD) : (cc0_stg3_0 : Ref sig .tc).ty.Contents (Elt F) :=
  (win0_3.blk (0 : Fin 1)).view.read (Elt F) ((s₀ m ρ).mem ((c : Thread nD τ).loc main_arg3))
def wqIn (c : Dev nD) : (cc0_stg4_0 : Ref sig .tc).ty.Contents (Elt F) :=
  (win0_4.blk (0 : Fin 1)).view.read (Elt F) ((s₀ m ρ).mem ((c : Thread nD τ).loc main_arg4))
def wqrIn (c : Dev nD) : (cc0_stg5_0 : Ref sig .tc).ty.Contents (Elt F) :=
  (win0_5.blk (0 : Fin 1)).view.read (Elt F) ((s₀ m ρ).mem ((c : Thread nD τ).loc main_arg5))
def wkrIn (c : Dev nD) : (cc0_stg6_0 : Ref sig .tc).ty.Contents (Elt F) :=
  (win0_6.blk (0 : Fin 1)).view.read (Elt F) ((s₀ m ρ).mem ((c : Thread nD τ).loc main_arg6))
def woIn (c : Dev nD) : (cc0_stg7_0 : Ref sig .tc).ty.Contents (Elt F) :=
  (win0_7.blk (0 : Fin 1)).view.read (Elt F) ((s₀ m ρ).mem ((c : Thread nD τ).loc main_arg7))

/-- The two weight blocks of one device, stacked: rows 0–63 the first, rows 64–127 the second. -/
def stackAt (a b : S64x1024.Idx → Elt F .bf16) (r : Fin 128) (k : Fin 1024) : Elt F .bf16 :=
  if h : r.val < 64 then a (ix2 (n0 := 64) (n1 := 1024) ⟨r.val, h⟩ k)
  else b (ix2 (n0 := 64) (n1 := 1024) ⟨r.val - 64, by omega⟩ k)

/-- Which device's data slot `k` of device `c`'s buffers ends up holding: its own in slot 0, its mate's in slot 1. -/
def slotDev (c : Dev nD) (k : Fin 2) : Dev nD := if k = 0 then c else peer c

/-- What device `c`'s weight buffer holds once both transfers have landed. -/
def wFull (c : Dev nD) : (cc0_scratch1 : Ref sig .tc).ty.Contents (Elt F) := fun (i : S2x128x1024.Idx) =>
  stackAt (wukIn m ρ (slotDev c (i 0))) (wuvIn m ρ (slotDev c (i 0))) (i 1) (i 2)

/-- What device `c`'s compressed buffer holds once both transfers have landed. -/
def cFull (c : Dev nD) : (cc0_scratch0 : Ref sig .tc).ty.Contents (Elt F) := fun (i : S2x512x64.Idx) =>
  k0_pay8 (F := F) (xIn m ρ (slotDev c (i 0))) (wdkvIn m ρ (slotDev c (i 0))) (ix2 (n0 := 512) (n1 := 64) (i 1) (i 2))

/-! ## The slots' elements -/

section Slots

omit [FloatOps F]

/-- A slot of a two-slot buffer, its unit axis put back: element `(r, e)` of slot `k` lies at `(k, r, e)`. -/
theorem slot_emb {n0 n1 : ℕ} (k : Fin 2) (h : (⟨2, ![n0, n1]⟩ : Shape).numel = (⟨3, ![1, n0, n1]⟩ : Shape).numel)
    (inb : ∀ a, (![k.val, 0, 0] : Fin 3 → ℕ) a + (⟨3, ![1, n0, n1]⟩ : Shape).size a ≤ (⟨3, ![2, n0, n1]⟩ : Shape).size a) (r : Fin n0) (e : Fin n1) :
    (Rect.unit (s := ⟨3, ![2, n0, n1]⟩) ![k.val, 0, 0] (⟨3, ![1, n0, n1]⟩ : Shape).size inb).emb (Shape.reshapeEquiv h (ix2 r e)) = ix3 k r e := by
  rw [reshapeEquiv_ix2_1ab]
  funext a; apply Fin.ext; fin_cases a
  · show k.val + 1 * 0 = k.val; omega
  · show 0 + 1 * r.val = r.val; omega
  · show 0 + 1 * e.val = e.val; omega

/-- Where each slot keeps its element `(r, e)`. -/
theorem w0_emb (y : S128x1024.Idx) : (w0M).view.emb y = (ix3 (0 : Fin 2) (y 0) (y 1) : S2x128x1024.Idx) :=
  (congrArg (w0M).view.emb (eq_ix2 (n0 := 128) (n1 := 1024) y)).trans (slot_emb (n0 := 128) (n1 := 1024) 0 _ _ (y 0) (y 1))
theorem w1_emb (y : S128x1024.Idx) : (w1M).view.emb y = (ix3 (1 : Fin 2) (y 0) (y 1) : S2x128x1024.Idx) :=
  (congrArg (w1M).view.emb (eq_ix2 (n0 := 128) (n1 := 1024) y)).trans (slot_emb (n0 := 128) (n1 := 1024) 1 _ _ (y 0) (y 1))
theorem c0_emb (y : S512x64.Idx) : (c0M).view.emb y = (ix3 (0 : Fin 2) (y 0) (y 1) : S2x512x64.Idx) :=
  (congrArg (c0M).view.emb (eq_ix2 (n0 := 512) (n1 := 64) y)).trans (slot_emb (n0 := 512) (n1 := 64) 0 _ _ (y 0) (y 1))
theorem c1_emb (y : S512x64.Idx) : (c1M).view.emb y = (ix3 (1 : Fin 2) (y 0) (y 1) : S2x512x64.Idx) :=
  (congrArg (c1M).view.emb (eq_ix2 (n0 := 512) (n1 := 64) y)).trans (slot_emb (n0 := 512) (n1 := 64) 1 _ _ (y 0) (y 1))

/-- A slot's elements are those whose first coordinate is its number. -/
theorem mem_w0 (i : S2x128x1024.Idx) : i ∈ (w0M).view.set ↔ (i 0 : Fin 2) = (0 : Fin 2) := by
  constructor
  · intro h; obtain ⟨y, -, rfl⟩ := Finset.mem_map.mp h; rw [w0_emb]
  · intro h
    rw [show i = (w0M).view.emb (ix2 (n0 := 128) (n1 := 1024) (i 1) (i 2)) from
      ((eq_ix3 (n0 := 2) (n1 := 128) (n2 := 1024) i).trans (congrArg (fun k => ix3 (n0 := 2) (n1 := 128) (n2 := 1024) k (i 1) (i 2)) h)).trans (w0_emb (ix2 (n0 := 128) (n1 := 1024) (i 1) (i 2))).symm]
    exact View.emb_mem_set _ _
theorem mem_w1 (i : S2x128x1024.Idx) : i ∈ (w1M).view.set ↔ (i 0 : Fin 2) = (1 : Fin 2) := by
  constructor
  · intro h; obtain ⟨y, -, rfl⟩ := Finset.mem_map.mp h; rw [w1_emb]
  · intro h
    rw [show i = (w1M).view.emb (ix2 (n0 := 128) (n1 := 1024) (i 1) (i 2)) from
      ((eq_ix3 (n0 := 2) (n1 := 128) (n2 := 1024) i).trans (congrArg (fun k => ix3 (n0 := 2) (n1 := 128) (n2 := 1024) k (i 1) (i 2)) h)).trans (w1_emb (ix2 (n0 := 128) (n1 := 1024) (i 1) (i 2))).symm]
    exact View.emb_mem_set _ _
theorem mem_c0 (i : S2x512x64.Idx) : i ∈ (c0M).view.set ↔ (i 0 : Fin 2) = (0 : Fin 2) := by
  constructor
  · intro h; obtain ⟨y, -, rfl⟩ := Finset.mem_map.mp h; rw [c0_emb]
  · intro h
    rw [show i = (c0M).view.emb (ix2 (n0 := 512) (n1 := 64) (i 1) (i 2)) from
      ((eq_ix3 (n0 := 2) (n1 := 512) (n2 := 64) i).trans (congrArg (fun k => ix3 (n0 := 2) (n1 := 512) (n2 := 64) k (i 1) (i 2)) h)).trans (c0_emb (ix2 (n0 := 512) (n1 := 64) (i 1) (i 2))).symm]
    exact View.emb_mem_set _ _
theorem mem_c1 (i : S2x512x64.Idx) : i ∈ (c1M).view.set ↔ (i 0 : Fin 2) = (1 : Fin 2) := by
  constructor
  · intro h; obtain ⟨y, -, rfl⟩ := Finset.mem_map.mp h; rw [c1_emb]
  · intro h
    rw [show i = (c1M).view.emb (ix2 (n0 := 512) (n1 := 64) (i 1) (i 2)) from
      ((eq_ix3 (n0 := 2) (n1 := 512) (n2 := 64) i).trans (congrArg (fun k => ix3 (n0 := 2) (n1 := 512) (n2 := 64) k (i 1) (i 2)) h)).trans (c1_emb (ix2 (n0 := 512) (n1 := 64) (i 1) (i 2))).symm]
    exact View.emb_mem_set _ _

/-- Two slots have no element in common and together are the whole buffer. -/
theorem w_disjoint : Disjoint (w0M).view.set (w1M).view.set := Finset.disjoint_left.mpr fun i h0 h1 =>
  absurd (((mem_w0 i).mp h0).symm.trans ((mem_w1 i).mp h1)) (show ¬ ((0 : Fin 2) = 1) by decide)
theorem c_disjoint : Disjoint (c0M).view.set (c1M).view.set := Finset.disjoint_left.mpr fun i h0 h1 =>
  absurd (((mem_c0 i).mp h0).symm.trans ((mem_c1 i).mp h1)) (show ¬ ((0 : Fin 2) = 1) by decide)
theorem w_union : (w0M).view.set ∪ (w1M).view.set = (Finset.univ : Finset S2x128x1024.Idx) := Finset.eq_univ_of_forall fun i => by
  rw [Finset.mem_union]
  rcases (by decide : ∀ k : Fin 2, k = 0 ∨ k = 1) (i 0) with h | h
  · exact .inl ((mem_w0 i).mpr h)
  · exact .inr ((mem_w1 i).mpr h)
theorem c_union : (c0M).view.set ∪ (c1M).view.set = (Finset.univ : Finset S2x512x64.Idx) := Finset.eq_univ_of_forall fun i => by
  rw [Finset.mem_union]
  rcases (by decide : ∀ k : Fin 2, k = 0 ∨ k = 1) (i 0) with h | h
  · exact .inl ((mem_c0 i).mpr h)
  · exact .inr ((mem_c1 i).mpr h)

end Slots

/-! ## What lands -/

/-- Slot 1 of the mate's weight buffer after `c`'s slot 0 is written into it, element by element. -/
theorem w_landed (c : Dev nD) (fd : (cc0_scratch1 : Ref sig .tc).ty.Contents (Elt F)) :
    ∀ i ∈ (w1M).view.set, (w1M).view.write (Elt F) fd ((w0M).view.read (Elt F) (wFull m ρ c)) Finset.univ i = wFull m ρ (peer c) i := by
  intro i hi
  obtain ⟨y, -, rfl⟩ := Finset.mem_map.mp hi
  rw [View.write_emb_of_mem _ _ (Finset.mem_univ _)]
  show wFull m ρ c ((w0M).view.emb y) = wFull m ρ (peer c) ((w1M).view.emb y)
  rw [w0_emb, w1_emb]
  show stackAt (wukIn m ρ (slotDev c 0)) (wuvIn m ρ (slotDev c 0)) (y 0) (y 1)
    = stackAt (wukIn m ρ (slotDev (peer c) 1)) (wuvIn m ρ (slotDev (peer c) 1)) (y 0) (y 1)
  rw [show slotDev (peer c) 1 = slotDev c 0 from peer_peer c]

/-- The same of the compressed buffer. -/
theorem c_landed (c : Dev nD) (fd : (cc0_scratch0 : Ref sig .tc).ty.Contents (Elt F)) :
    ∀ i ∈ (c1M).view.set, (c1M).view.write (Elt F) fd ((c0M).view.read (Elt F) (cFull m ρ c)) Finset.univ i = cFull m ρ (peer c) i := by
  intro i hi
  obtain ⟨y, -, rfl⟩ := Finset.mem_map.mp hi
  rw [View.write_emb_of_mem _ _ (Finset.mem_univ _)]
  show cFull m ρ c ((c0M).view.emb y) = cFull m ρ (peer c) ((c1M).view.emb y)
  rw [c0_emb, c1_emb]
  show k0_pay8 (F := F) (xIn m ρ (slotDev c 0)) (wdkvIn m ρ (slotDev c 0)) (ix2 (n0 := 512) (n1 := 64) (y 0) (y 1))
    = k0_pay8 (F := F) (xIn m ρ (slotDev (peer c) 1)) (wdkvIn m ρ (slotDev (peer c) 1)) (ix2 (n0 := 512) (n1 := 64) (y 0) (y 1))
  rw [show slotDev (peer c) 1 = slotDev c 0 from peer_peer c]

/-! ## The slots held -/

def w0Pts (c : Dev nD) (f : Buf (Elt F) ((w0M).view.loc (c : Thread nD τ))) : sProp 𝕄 := (w0M).view.loc (c : Thread nD τ) ↦[(w0M).view.set]{fullShare} f
def w1Pts (c : Dev nD) (f : Buf (Elt F) ((w1M).view.loc (c : Thread nD τ))) : sProp 𝕄 := (w1M).view.loc (c : Thread nD τ) ↦[(w1M).view.set]{fullShare} f
def c0Pts (c : Dev nD) (f : Buf (Elt F) ((c0M).view.loc (c : Thread nD τ))) : sProp 𝕄 := (c0M).view.loc (c : Thread nD τ) ↦[(c0M).view.set]{fullShare} f
def c1Pts (c : Dev nD) (f : Buf (Elt F) ((c1M).view.loc (c : Thread nD τ))) : sProp 𝕄 := (c1M).view.loc (c : Thread nD τ) ↦[(c1M).view.set]{fullShare} f

omit [FloatOps F] in
instance w0Pts_storable (c : Dev nD) (f) : BI.Storable (upEmb : UEmb _ 𝕄) (w0Pts (F := F) c f) := by unfold w0Pts; infer_instance
omit [FloatOps F] in
instance w1Pts_storable (c : Dev nD) (f) : BI.Storable (upEmb : UEmb _ 𝕄) (w1Pts (F := F) c f) := by unfold w1Pts; infer_instance
omit [FloatOps F] in
instance c0Pts_storable (c : Dev nD) (f) : BI.Storable (upEmb : UEmb _ 𝕄) (c0Pts (F := F) c f) := by unfold c0Pts; infer_instance
omit [FloatOps F] in
instance c1Pts_storable (c : Dev nD) (f) : BI.Storable (upEmb : UEmb _ 𝕄) (c1Pts (F := F) c f) := by unfold c1Pts; infer_instance

omit [FloatOps F] in
/-- The whole weight buffer is its two slots, both ways. -/
theorem w_slots (c : Dev nD) (f : Buf (Elt F) ((c : Thread nD τ).loc cc0_scratch1)) :
    ((((c : Thread nD τ).loc cc0_scratch1) ↦{fullShare} f) : sProp 𝕄) ⊣⊢ iprop(w0Pts c f ∗ w1Pts c f) := by
  have h := pointsTo_union (Ix := Unit) (Name := ℕ) (U := UU) (Lvl := ℕ) (ℓ := (c : Thread nD τ).loc cc0_scratch1) (q := fullShare) (f := f) w_disjoint
  rw [w_union] at h; exact h
omit [FloatOps F] in
/-- The whole compressed buffer is its two slots, both ways. -/
theorem c_slots (c : Dev nD) (f : Buf (Elt F) ((c : Thread nD τ).loc cc0_scratch0)) :
    ((((c : Thread nD τ).loc cc0_scratch0) ↦{fullShare} f) : sProp 𝕄) ⊣⊢ iprop(c0Pts c f ∗ c1Pts c f) := by
  have h := pointsTo_union (Ix := Unit) (Name := ℕ) (U := UU) (Lvl := ℕ) (ℓ := (c : Thread nD τ).loc cc0_scratch0) (q := fullShare) (f := f) c_disjoint
  rw [c_union] at h; exact h

/-! ## The schedule -/

/-- What the mate's signal hands `c`: the mate's two landing slots, whatever they hold. -/
def barPay (c : Dev nD) : sProp 𝕄 := iprop((∃ f, w1Pts (peer c) f) ∗ (∃ f, c1Pts (peer c) f))
def sendWPay (c : Dev nD) : sProp 𝕄 := w0Pts c (wFull m ρ c)
def sendCPay (c : Dev nD) : sProp 𝕄 := c0Pts c (cFull m ρ c)
def recvWPay (c : Dev nD) : sProp 𝕄 := w1Pts c (wFull m ρ c)
def recvCPay (c : Dev nD) : sProp 𝕄 := c1Pts c (cFull m ρ c)

abbrev IsCell (g : GSem nD τ sig) : Prop := g.1.2 = .tc ∧ (g.2 = .reg barS ∨ g.2 = .dma sendW ∨ g.2 = .dma sendC ∨ g.2 = .dma recvW ∨ g.2 = .dma recvC)

/-- One round: each of the five cells is paid once, by one duty. -/
def Rd : Rounds.Schedule (GSem nD τ sig) Unit 𝕄 where
  duties g r := if r = 0 ∧ IsCell g then {()} else ∅
  unitless _ := False
  amount g _ _ := if g.2 = .reg barS then 1 else if g.2 = .dma sendW ∨ g.2 = .dma recvW then NW else NC
  payload g _ _ :=
    if g.2 = .reg barS then barPay g.1.1
    else if g.2 = .dma sendW then sendWPay m ρ g.1.1
    else if g.2 = .dma sendC then sendCPay m ρ g.1.1
    else if g.2 = .dma recvW then recvWPay m ρ g.1.1
    else if g.2 = .dma recvC then recvCPay m ρ g.1.1
    else iprop(emp)
  amount_pos g _ _ _ := by
    by_cases h : g.2 = .reg barS
    · rw [if_pos h]; exact Nat.one_pos
    · rw [if_neg h]
      by_cases h' : g.2 = .dma sendW ∨ g.2 = .dma recvW
      · rw [if_pos h']; exact NW_pos
      · rw [if_neg h']; exact NC_pos

set_option synthInstance.maxHeartbeats 400000 in
instance Rd_payload_storable (g : GSem nD τ sig) (r : ℕ) (d : Unit) : BI.Storable (upEmb : UEmb _ 𝕄) ((Rd (F := F) m ρ).payload g r d) := by
  show BI.Storable upEmb (if g.2 = .reg barS then barPay g.1.1 else if g.2 = .dma sendW then sendWPay m ρ g.1.1 else if g.2 = .dma sendC then sendCPay m ρ g.1.1
    else if g.2 = .dma recvW then recvWPay m ρ g.1.1 else if g.2 = .dma recvC then recvCPay m ρ g.1.1 else iprop(emp))
  unfold barPay sendWPay sendCPay recvWPay recvCPay
  (repeat' split) <;> infer_instance

section Sched
variable (c : Dev nD)

theorem dma_ne_bar (q : DmaSem sig) : (SemLoc.dma q : SemLoc sig) ≠ .reg barS := fun h => by cases h
theorem sendC_ne_sendW : (SemLoc.dma sendC : SemLoc sig) ≠ .dma sendW := by decide
theorem sendC_ne_recvW : (SemLoc.dma sendC : SemLoc sig) ≠ .dma recvW := by decide
theorem recvW_ne_sendW : (SemLoc.dma recvW : SemLoc sig) ≠ .dma sendW := by decide
theorem recvW_ne_sendC : (SemLoc.dma recvW : SemLoc sig) ≠ .dma sendC := by decide
theorem recvC_ne_sendW : (SemLoc.dma recvC : SemLoc sig) ≠ .dma sendW := by decide
theorem recvC_ne_sendC : (SemLoc.dma recvC : SemLoc sig) ≠ .dma sendC := by decide
theorem recvC_ne_recvW : (SemLoc.dma recvC : SemLoc sig) ≠ .dma recvW := by decide

theorem duties_at (g : GSem nD τ sig) (h : IsCell g) : (Rd (F := F) m ρ).duties g 0 = {()} := by dsimp only [Rd]; exact if_pos ⟨rfl, h⟩
theorem duties_bar : (Rd (F := F) m ρ).duties (barCell c) 0 = {()} := duties_at m ρ _ ⟨rfl, .inl rfl⟩
theorem duties_sendW : (Rd (F := F) m ρ).duties (sendWCell c) 0 = {()} := duties_at m ρ _ ⟨rfl, .inr (.inl rfl)⟩
theorem duties_sendC : (Rd (F := F) m ρ).duties (sendCCell c) 0 = {()} := duties_at m ρ _ ⟨rfl, .inr (.inr (.inl rfl))⟩
theorem duties_recvW : (Rd (F := F) m ρ).duties (recvWCell c) 0 = {()} := duties_at m ρ _ ⟨rfl, .inr (.inr (.inr (.inl rfl)))⟩
theorem duties_recvC : (Rd (F := F) m ρ).duties (recvCCell c) 0 = {()} := duties_at m ρ _ ⟨rfl, .inr (.inr (.inr (.inr rfl)))⟩
/-- No cell is paid after round 0. -/
theorem duties_later (g : GSem nD τ sig) : ∀ r, 1 ≤ r → (Rd (F := F) m ρ).duties g r = ∅ :=
  fun r hr => by dsimp only [Rd]; exact if_neg fun h => by omega

theorem amount_bar (u : Unit) : (Rd (F := F) m ρ).amount (barCell c) 0 u = 1 := by dsimp only [Rd]; exact if_pos rfl
theorem amount_sendW (u : Unit) : (Rd (F := F) m ρ).amount (sendWCell c) 0 u = NW := by dsimp only [Rd]; rw [if_neg (dma_ne_bar _)]; exact if_pos (.inl rfl)
theorem amount_recvW (u : Unit) : (Rd (F := F) m ρ).amount (recvWCell c) 0 u = NW := by dsimp only [Rd]; rw [if_neg (dma_ne_bar _)]; exact if_pos (.inr rfl)
theorem amount_sendC (u : Unit) : (Rd (F := F) m ρ).amount (sendCCell c) 0 u = NC := by
  dsimp only [Rd]; rw [if_neg (dma_ne_bar _)]; exact if_neg fun h => h.elim sendC_ne_sendW sendC_ne_recvW
theorem amount_recvC (u : Unit) : (Rd (F := F) m ρ).amount (recvCCell c) 0 u = NC := by
  dsimp only [Rd]; rw [if_neg (dma_ne_bar _)]; exact if_neg fun h => h.elim recvC_ne_sendW recvC_ne_recvW

theorem expect_bar : (Rd (F := F) m ρ).expect (barCell c) 0 = 1 := by
  unfold Schedule.expect Schedule.amountOf; rw [duties_bar, Finset.sum_singleton, amount_bar]
theorem expect_sendW : (Rd (F := F) m ρ).expect (sendWCell c) 0 = NW := by
  unfold Schedule.expect Schedule.amountOf; rw [duties_sendW, Finset.sum_singleton, amount_sendW]
theorem expect_sendC : (Rd (F := F) m ρ).expect (sendCCell c) 0 = NC := by
  unfold Schedule.expect Schedule.amountOf; rw [duties_sendC, Finset.sum_singleton, amount_sendC]
theorem expect_recvW : (Rd (F := F) m ρ).expect (recvWCell c) 0 = NW := by
  unfold Schedule.expect Schedule.amountOf; rw [duties_recvW, Finset.sum_singleton, amount_recvW]
theorem expect_recvC : (Rd (F := F) m ρ).expect (recvCCell c) 0 = NC := by
  unfold Schedule.expect Schedule.amountOf; rw [duties_recvC, Finset.sum_singleton, amount_recvC]

theorem payload_bar (u : Unit) : (Rd (F := F) m ρ).payload (barCell c) 0 u = barPay c := by dsimp only [Rd]; exact if_pos rfl
theorem payload_sendW (u : Unit) : (Rd (F := F) m ρ).payload (sendWCell c) 0 u = sendWPay m ρ c := by
  dsimp only [Rd]; rw [if_neg (dma_ne_bar _), if_pos rfl]
theorem payload_sendC (u : Unit) : (Rd (F := F) m ρ).payload (sendCCell c) 0 u = sendCPay m ρ c := by
  dsimp only [Rd]; rw [if_neg (dma_ne_bar _), if_neg sendC_ne_sendW, if_pos rfl]
theorem payload_recvW (u : Unit) : (Rd (F := F) m ρ).payload (recvWCell c) 0 u = recvWPay m ρ c := by
  dsimp only [Rd]; rw [if_neg (dma_ne_bar _), if_neg recvW_ne_sendW, if_neg recvW_ne_sendC, if_pos rfl]
theorem payload_recvC (u : Unit) : (Rd (F := F) m ρ).payload (recvCCell c) 0 u = recvCPay m ρ c := by
  dsimp only [Rd]; rw [if_neg (dma_ne_bar _), if_neg recvC_ne_sendW, if_neg recvC_ne_sendC, if_neg recvC_ne_recvW, if_pos rfl]

theorem rest_bar : bigSep ((Rd (F := F) m ρ).duties (barCell c) 0 \ ∅) (fun u => (Rd (F := F) m ρ).payload (barCell c) 0 u) = barPay c := by
  rw [Finset.sdiff_empty, duties_bar, bigSep_singleton, payload_bar]
theorem rest_sendW : bigSep ((Rd (F := F) m ρ).duties (sendWCell c) 0 \ ∅) (fun u => (Rd (F := F) m ρ).payload (sendWCell c) 0 u) = sendWPay m ρ c := by
  rw [Finset.sdiff_empty, duties_sendW, bigSep_singleton, payload_sendW]
theorem rest_sendC : bigSep ((Rd (F := F) m ρ).duties (sendCCell c) 0 \ ∅) (fun u => (Rd (F := F) m ρ).payload (sendCCell c) 0 u) = sendCPay m ρ c := by
  rw [Finset.sdiff_empty, duties_sendC, bigSep_singleton, payload_sendC]
theorem rest_recvW : bigSep ((Rd (F := F) m ρ).duties (recvWCell c) 0 \ ∅) (fun u => (Rd (F := F) m ρ).payload (recvWCell c) 0 u) = recvWPay m ρ c := by
  rw [Finset.sdiff_empty, duties_recvW, bigSep_singleton, payload_recvW]
theorem rest_recvC : bigSep ((Rd (F := F) m ρ).duties (recvCCell c) 0 \ ∅) (fun u => (Rd (F := F) m ρ).payload (recvCCell c) 0 u) = recvCPay m ρ c := by
  rw [Finset.sdiff_empty, duties_recvC, bigSep_singleton, payload_recvC]

end Sched

/-! ## What each device owes at launch, and the levels -/

/-- What a device owes once it has sent the weights; -/
def O₂ (c : Dev nD) : CellTallies nD τ sig Unit := tallyAt (recvCCell (peer c)) () NC
/-- once it has signalled; -/
def O₁ (c : Dev nD) : CellTallies nD τ sig Unit := O₂ c + tallyAt (recvWCell (peer c)) () NW
/-- and at launch: its mate's two receive credits and its mate's barrier unit. -/
def O₀ (c : Dev nD) : CellTallies nD τ sig Unit := O₁ c + tallyAt (barCell (peer c)) () 1

def L (g : GSem nD τ sig) : Finset Unit := if g.1.2 = .tc then {()} else ∅
/-- Barrier cells at level 1, receive cells at 2, all others at 0. -/
def lv (g : GSem nD τ sig) (_ : Unit) : ℕ := if g.2 = .reg barS then 1 else if g.2 = .dma recvW ∨ g.2 = .dma recvC then 2 else 0
theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) : g = recvCCell (peer c) ∨ g = recvWCell (peer c) := by
  unfold O₁ O₂ at h
  rw [Pi.add_apply, Finsupp.add_apply, tallyAt_apply, tallyAt_apply] at h
  by_contra hn; rw [not_or] at hn
  rw [if_neg (fun h' => hn.1 h'.1), if_neg (fun h' => hn.2 h'.1)] at h
  exact Nat.lt_irrefl 0 h
theorem O₀_pos {c : Dev nD} {g : GSem nD τ sig} {u : Unit} (h : 0 < O₀ c g u) :
    g = recvCCell (peer c) ∨ g = recvWCell (peer c) ∨ g = barCell (peer c) := by
  unfold O₀ at h
  rw [Pi.add_apply, Finsupp.add_apply, tallyAt_apply] at h
  by_cases hb : g = barCell (peer c)
  · exact .inr (.inr hb)
  · rw [if_neg (fun h' => hb h'.1), Nat.add_zero] at h
    exact (O₁_pos h).elim .inl fun h => .inr (.inl h)

theorem lv_bar (c : Dev nD) (u : Unit) : lv (barCell c) u = 1 := if_pos rfl
theorem lv_recvW (c : Dev nD) (u : Unit) : lv (recvWCell c) u = 2 := by dsimp only [lv]; rw [if_neg (dma_ne_bar _)]; exact if_pos (.inl rfl)
theorem lv_recvC (c : Dev nD) (u : Unit) : lv (recvCCell c) u = 2 := by dsimp only [lv]; rw [if_neg (dma_ne_bar _)]; exact if_pos (.inr rfl)
theorem lv_other (c : Dev nD) (q : DmaSem sig) (h : ¬ (SemLoc.dma q = SemLoc.dma recvW ∨ SemLoc.dma q = SemLoc.dma recvC)) (u : Unit) :
    lv ((c : Thread nD τ), .dma q) u = 0 := by dsimp only [lv]; rw [if_neg (dma_ne_bar _)]; exact if_neg h

omit [FloatOps F] in
/-- A staging wait is allowed at launch's debt and at none. -/
theorem mayWait_stage (c : Dev nD) (q : DmaSem sig) (hq : ¬ (SemLoc.dma q = SemLoc.dma recvW ∨ SemLoc.dma q = SemLoc.dma recvC))
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by rw [Finset.mem_singleton.mp hp, lv_other c q hq])
      (fun g u hg => by
        rcases O₀_pos hg with rfl | rfl | rfl
        · rw [lv_recvC]; decide
        · rw [lv_recvW]; decide
        · rw [lv_bar]; decide)
  · rw [MayWait_zero]; iintro -; iempintro

omit [FloatOps F] in
/-- At its barrier wait a device owes receive credits only, which lie above. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp, lv_bar])
    (fun g u hg => by
      rcases O₁_pos hg with rfl | rfl
      · rw [lv_recvC]; decide
      · rw [lv_recvW]; decide)

end Cert.KernelIdeal.Swap
-- ==== Proof.Data.lean ====
/-
# What one device computes, and the launch's bookkeeping around its body

The values of the attention over the staged inputs of a device and its mate, as the kernel's own operations give them
at any element interpretation: the projections, one head over one batch row (`headOf`), the whole attention buffer
(`attnAt`) and the result (`outAt`). Then the pipeline's proof data: what the body starts with and leaves.
-/
module

public import proofs.«01_k».proof.Proof.Protocol

@[expose] public section

set_option maxRecDepth 16384

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values -/

/-- The exponentials of one head's scores less their row maxima, and those divided by their row sums. -/
def headScores (q k : FVec F S256x64 .bf16) (qr kr : FVec F S256x32 .bf16) : FVec F S256x256 .f32 :=
  mulf (addf (matmul dot_S256x64_S256x64_S256x256_1_1_0_0_n_n none q k (constant S256x256 .f32 0x00000000#32))
      (matmul dot_S256x32_S256x32_S256x256_1_1_0_0_n_n none qr kr (constant S256x256 .f32 0x00000000#32)))
    (broadcast S256x256 (Scalar.ofBits .f32 0x3DD105EC#32))
def headExp (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))
def headProbs (e : FVec F S256x256 .f32) : FVec F S256x256 .f32 :=
  divf e (broadcastTo S256x256 (shapeCast S256x1 (multiReduction .add [1] S256 e 0x00000000#32 reduces_S256x256_S256 (.inl rfl) rfl)
    shapeCasts_S256_S256x1) broadcasts_S256x1_S256x256)
/-- One head over one batch row: softmax of the scaled scores, times the values. -/
def headOf (q k v : FVec F S256x64 .bf16) (qr kr : FVec F S256x32 .bf16) : FVec F S256x64 .bf16 :=
  shapeCast S256x64 (truncf .bf16 (matmul dot_S256x256_S256x64_S256x64_1_0_0_1_n_n none
    (truncf .bf16 (headProbs (headExp (headScores q k qr kr))) bitsLt_bf16_f32) v (constant S256x64 .f32 0x00000000#32)) bitsLt_bf16_f32)
    shapeCasts_S256x64_S256x64

theorem slices_head (b h : ℕ) (hb : b < 2) (hh : h < 16) : S512x1024.Slices ![256 * b, 64 * h] S256x64 :=
  ⟨rfl, fun a => by fin_cases a <;> simp [S256x64, S512x1024] <;> omega⟩
theorem slices_rot (b h : ℕ) (hb : b < 2) (hh : h < 16) : S512x512.Slices ![256 * b, 32 * h] S256x32 :=
  ⟨rfl, fun a => by fin_cases a <;> simp [S256x32, S512x512] <;> omega⟩
theorem slices_key (b : ℕ) (hb : b < 2) : S512x32.Slices ![256 * b, 0] S256x32 :=
  ⟨rfl, fun a => by fin_cases a <;> simp [S256x32, S512x32] <;> omega⟩

/-- Head `h` over batch row `b`: the head of the 256 rows and 64 (or 32) columns that belong to it. -/
def tile (q k v : FVec F S512x1024 .bf16) (qr : FVec F S512x512 .bf16) (kr : FVec F S512x32 .bf16) (b h : ℕ) (hb : b < 2) (hh : h < 16) :
    FVec F S256x64 .bf16 :=
  headOf (extractStridedSlice S256x64 ![256 * b, 64 * h] q (slices_head b h hb hh)) (extractStridedSlice S256x64 ![256 * b, 64 * h] k (slices_head b h hb hh))
    (extractStridedSlice S256x64 ![256 * b, 64 * h] v (slices_head b h hb hh))
    (extractStridedSlice S256x32 ![256 * b, 32 * h] qr (slices_rot b h hb hh)) (extractStridedSlice S256x32 ![256 * b, 0] kr (slices_key b hb))

/-- The attention buffer: row `256·b + i`, column `64·h + d` is head `h` of batch row `b` at `(i, d)`. -/
def attnOf (q k v : FVec F S512x1024 .bf16) (qr : FVec F S512x512 .bf16) (kr : FVec F S512x32 .bf16) : FVec F S512x1024 .bf16 := fun i =>
  tile q k v qr kr ((i 0).val / 256) ((i 1).val / 64) (by have : (i 0).val < 512 := (i 0).isLt; omega) (by have : (i 1).val < 1024 := (i 1).isLt; omega)
    (ix2 (n0 := 256) (n1 := 64) ⟨(i 0).val % 256, Nat.mod_lt _ (by decide)⟩ ⟨(i 1).val % 64, Nat.mod_lt _ (by decide)⟩)

/-- Device `c`'s activations as a matrix of 512 rows, and its projections. -/
def xRows (c : Dev nD) : FVec F S512x1024 .bf16 := k0_pay7 (xIn m ρ c)
def qAll (c : Dev nD) : FVec F S512x1024 .bf16 := k0_pay10 (xRows m ρ c) (wqIn m ρ c)
def qrAll (c : Dev nD) : FVec F S512x512 .bf16 := k0_pay11 (xRows m ρ c) (wqrIn m ρ c)
def krAll (c : Dev nD) : FVec F S512x32 .bf16 := k0_pay12 (xRows m ρ c) (wkrIn m ρ c)
def comp (c : Dev nD) : FVec F S512x64 .bf16 := k0_pay8 (xIn m ρ c) (wdkvIn m ρ c)
/-- What the mate sent, as the body reads it back: its compressed activations and its two weight blocks. -/
def compPeer (c : Dev nD) : FVec F S1x512x64 .bf16 := fun i => comp m ρ (peer c) (ix2 (n0 := 512) (n1 := 64) (i 1) (i 2))
def wukPeer (c : Dev nD) : FVec F S1x64x1024 .bf16 := fun i => wukIn m ρ (peer c) (ix2 (n0 := 64) (n1 := 1024) (i 1) (i 2))
def wuvPeer (c : Dev nD) : FVec F S1x64x1024 .bf16 := fun i => wuvIn m ρ (peer c) (ix2 (n0 := 64) (n1 := 1024) (i 1) (i 2))
def kAll (c : Dev nD) : FVec F S512x1024 .bf16 := k0_pay16 (k0_pay13 (comp m ρ c) (wukIn m ρ c)) (compPeer m ρ c) (wukPeer m ρ c)
def vAll (c : Dev nD) : FVec F S512x1024 .bf16 := k0_pay17 (k0_pay14 (comp m ρ c) (wuvIn m ρ c)) (compPeer m ρ c) (wuvPeer m ρ c)
def attnAt (c : Dev nD) : FVec F S512x1024 .bf16 := attnOf (qAll m ρ c) (kAll m ρ c) (vAll m ρ c) (qrAll m ρ c) (krAll m ρ c)

/-- What device `c` leaves in its output: batch row `b` is rows `256·b` … of the attention times the output weights. -/
def outAt (c : Dev nD) : (cc0_stg8_0 : Ref sig .tc).ty.Contents (Elt F) := fun (i : S2x256x1024.Idx) =>
  k0_pay2 (F := F) (attnAt m ρ c) (woIn m ρ c)
    (ix2 (n0 := 512) (n1 := 1024) ⟨256 * (i 0).val + (i 1).val, by have : (i 0).val < 2 := (i 0).isLt; have : (i 1).val < 256 := (i 1).isLt; omega⟩ (i 2))

/-! ## What the body starts with and leaves -/

section Ghost

variable (K : Dev nD × Fin 5 → ℕ)

def invs (c : Dev nD) : sProp 𝕄 :=
  iprop(cellInv ER (Rd m ρ) (K (c, 0)) (barCell c) ∗ cellInv ER (Rd m ρ) (K (c, 1)) (sendWCell c) ∗ cellInv ER (Rd m ρ) (K (c, 2)) (sendCCell c)
    ∗ cellInv ER (Rd m ρ) (K (c, 3)) (recvWCell c) ∗ cellInv ER (Rd m ρ) (K (c, 4)) (recvCCell c)
    ∗ cellInv ER (Rd m ρ) (K (peer c, 0)) (barCell (peer c)) ∗ cellInv ER (Rd m ρ) (K (peer c, 3)) (recvWCell (peer c))
    ∗ cellInv ER (Rd m ρ) (K (peer c, 4)) (recvCCell (peer c)))

set_option synthInstance.maxHeartbeats 400000 in
instance invs_persistent (c : Dev nD) : BI.Persistent (invs m ρ K c) := by unfold invs; infer_instance

/-- The rounds the device pays into are open. -/
def opened (c : Dev nD) : sProp 𝕄 :=
  iprop(reached ER (barCell (peer c)) 0 ∗ reached ER (sendWCell c) 0 ∗ reached ER (sendCCell c) 0 ∗ reached ER (recvWCell (peer c)) 0
    ∗ reached ER (recvCCell (peer c)) 0)

/-- The device's right to collect from each of its five cells, -/
def atCells (c : Dev nD) : sProp 𝕄 :=
  iprop(atPos ER (barCell c) 0 ∅ 0 ∗ atPos ER (sendWCell c) 0 ∅ 0 ∗ atPos ER (sendCCell c) 0 ∅ 0 ∗ atPos ER (recvWCell c) 0 ∅ 0 ∗ atPos ER (recvCCell c) 0 ∅ 0)

/-- and to pay the five duties it pays. -/
def payToks (c : Dev nD) : sProp 𝕄 :=
  iprop(dutyTok ER (barCell (peer c)) 0 () ∗ dutyTok ER (sendWCell c) 0 () ∗ dutyTok ER (sendCCell c) 0 () ∗ dutyTok ER (recvWCell (peer c)) 0 ()
    ∗ dutyTok ER (recvCCell (peer c)) 0 ())

def ghost (c : Dev nD) : sProp 𝕄 := iprop(invs m ρ K c ∗ opened c ∗ atCells c ∗ payToks c)

end Ghost

/-- The units the mate owes this device. -/
def credits (c : Dev nD) : sProp 𝕄 :=
  iprop(cred (tallyAt (barCell c) () 1) ∗ cred (tallyAt (recvWCell c) () NW) ∗ cred (tallyAt (recvCCell c) () NC))

def start (c : Dev nD) : sProp 𝕄 := iprop((∃ K, ghost m ρ K c) ∗ credits c ∗ levAts L lv)

/-- The three scratch buffers, whatever they hold. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

/-- The five cells back at zero. -/
def closed (c : Dev nD) : sProp 𝕄 :=
  iprop(semVal (barCell c) 0 ∗ semVal (sendWCell c) 0 ∗ semVal (sendCCell c) 0 ∗ semVal (recvWCell c) 0 ∗ semVal (recvCCell c) 0)

def Φ₀ (c : Dev nD) : sProp 𝕄 := iprop(start m ρ c ∗ scratch c)
def Φ₁ (c : Dev nD) : sProp 𝕄 := iprop(scratch (F := F) c ∗ closed c)

/-- The pipeline's data: the arrays as launched, each window's buffer at its input or the result, the ghost state before and after,
    and the debt before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wdkvIn m ρ c
    | ⟨2, _⟩ => wukIn m ρ c
    | ⟨3, _⟩ => wuvIn m ρ c
    | ⟨4, _⟩ => wqIn m ρ c
    | ⟨5, _⟩ => wqrIn m ρ c
    | ⟨6, _⟩ => wkrIn m ρ c
    | ⟨7, _⟩ => woIn m ρ c
    | ⟨8, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Swap
-- ==== Proof.Parts.lean ====
/-
# The exchange, run

The first five printed parts of one device's body, in which the exchange with its mate happens: each takes what it needs of the
exchange's ghost state and of the buffers, and hands on what the next parts need. Between them the device's slot 0s go from its
own hands to the transfers and back, and its slot 1s from its mate's signal to the transfers' landing.
-/
module

public import proofs.«01_k».proof.Proof.Data

@[expose] public section

set_option maxRecDepth 16384

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's accesses of the two exchange buffers -/

abbrev wbM : Memref sig .tc .vmem S2x128x1024 .bf16 := Memref.whole cc0_scratch1
abbrev cbM : Memref sig .tc .vmem S2x512x64 .bf16 := Memref.whole cc0_scratch0
abbrev rW0lo : Rect S2x128x1024 := Rect.unit (s := S2x128x1024) ![0, 0, 0] S1x64x1024.size inb_S2x128x1024_S1x64x1024_0_0_0
abbrev rW0hi : Rect S2x128x1024 := Rect.unit (s := S2x128x1024) ![0, 64, 0] S1x64x1024.size inb_S2x128x1024_S1x64x1024_0_64_0
abbrev rW1lo : Rect S2x128x1024 := Rect.unit (s := S2x128x1024) ![1, 0, 0] S1x64x1024.size inb_S2x128x1024_S1x64x1024_1_0_0
abbrev rW1hi : Rect S2x128x1024 := Rect.unit (s := S2x128x1024) ![1, 64, 0] S1x64x1024.size inb_S2x128x1024_S1x64x1024_1_64_0
abbrev rC0 : Rect S2x512x64 := Rect.unit (s := S2x512x64) ![0, 0, 0] S1x512x64.size inb_S2x512x64_S1x512x64_0_0_0
abbrev rC1 : Rect S2x512x64 := Rect.unit (s := S2x512x64) ![1, 0, 0] S1x512x64.size inb_S2x512x64_S1x512x64_1_0_0

section Access
omit [FloatOps F]

/-- A box of one layer of a two-layer array, at row offset `o`: its element `(0, r, e)` lies at `(k, o + r, e)`. -/
theorem layer_emb {n0 n1 d : ℕ} (k : Fin 2) (o : ℕ)
    (inb : ∀ a, (![k.val, o, 0] : Fin 3 → ℕ) a + (⟨3, ![1, d, n1]⟩ : Shape).size a ≤ (⟨3, ![2, n0, n1]⟩ : Shape).size a)
    (y : (⟨3, ![1, d, n1]⟩ : Shape).Idx) (r : Fin n0) (hr : r.val = o + (y 1).val) :
    (Rect.unit (s := ⟨3, ![2, n0, n1]⟩) ![k.val, o, 0] (⟨3, ![1, d, n1]⟩ : Shape).size inb).emb y = ix3 k r (y 2) := by
  have h0 : (y 0).val = 0 := by have : (y 0).val < 1 := (y 0).isLt; omega
  funext a; apply Fin.ext; fin_cases a
  · show k.val + 1 * (y 0).val = k.val; omega
  · show o + 1 * (y 1).val = r.val; omega
  · show 0 + 1 * (y 2).val = (y 2).val; omega

theorem wlo_emb (y : S1x64x1024.Idx) : rW0lo.emb y = (ix3 (0 : Fin 2) (⟨(y 1).val, by have : (y 1).val < 64 := (y 1).isLt; omega⟩ : Fin 128) (y 2) : S2x128x1024.Idx) :=
  layer_emb (n0 := 128) (n1 := 1024) (d := 64) 0 0 _ y _ (Nat.zero_add _).symm
theorem whi_emb (y : S1x64x1024.Idx) : rW0hi.emb y = (ix3 (0 : Fin 2) (⟨64 + (y 1).val, by have : (y 1).val < 64 := (y 1).isLt; omega⟩ : Fin 128) (y 2) : S2x128x1024.Idx) :=
  layer_emb (n0 := 128) (n1 := 1024) (d := 64) 0 64 _ y _ rfl
theorem w1lo_emb (y : S1x64x1024.Idx) : rW1lo.emb y = (ix3 (1 : Fin 2) (⟨(y 1).val, by have : (y 1).val < 64 := (y 1).isLt; omega⟩ : Fin 128) (y 2) : S2x128x1024.Idx) :=
  layer_emb (n0 := 128) (n1 := 1024) (d := 64) 1 0 _ y _ (Nat.zero_add _).symm
theorem w1hi_emb (y : S1x64x1024.Idx) : rW1hi.emb y = (ix3 (1 : Fin 2) (⟨64 + (y 1).val, by have : (y 1).val < 64 := (y 1).isLt; omega⟩ : Fin 128) (y 2) : S2x128x1024.Idx) :=
  layer_emb (n0 := 128) (n1 := 1024) (d := 64) 1 64 _ y _ rfl
theorem c0r_emb (y : S1x512x64.Idx) : rC0.emb y = (ix3 (0 : Fin 2) (⟨(y 1).val, (y 1).isLt⟩ : Fin 512) (y 2) : S2x512x64.Idx) :=
  layer_emb (n0 := 512) (n1 := 64) (d := 512) 0 0 _ y _ (Nat.zero_add _).symm
theorem c1r_emb (y : S1x512x64.Idx) : rC1.emb y = (ix3 (1 : Fin 2) (⟨(y 1).val, (y 1).isLt⟩ : Fin 512) (y 2) : S2x512x64.Idx) :=
  layer_emb (n0 := 512) (n1 := 64) (d := 512) 1 0 _ y _ (Nat.zero_add _).symm

theorem access_wlo : (wbM.access rW0lo).set ⊆ (w0M).view.set := fun i hi => by
  obtain ⟨y, -, rfl⟩ := Finset.mem_map.mp hi; exact (mem_w0 _).mpr (congrFun (wlo_emb y) 0)
theorem access_whi : (wbM.access rW0hi).set ⊆ (w0M).view.set := fun i hi => by
  obtain ⟨y, -, rfl⟩ := Finset.mem_map.mp hi; exact (mem_w0 _).mpr (congrFun (whi_emb y) 0)
theorem access_w1lo : (wbM.access rW1lo).set ⊆ (w1M).view.set := fun i hi => by
  obtain ⟨y, -, rfl⟩ := Finset.mem_map.mp hi; exact (mem_w1 _).mpr (congrFun (w1lo_emb y) 0)
theorem access_w1hi : (wbM.access rW1hi).set ⊆ (w1M).view.set := fun i hi => by
  obtain ⟨y, -, rfl⟩ := Finset.mem_map.mp hi; exact (mem_w1 _).mpr (congrFun (w1hi_emb y) 0)
theorem access_c0 : (cbM.access rC0).set ⊆ (c0M).view.set := fun i hi => by
  obtain ⟨y, -, rfl⟩ := Finset.mem_map.mp hi; exact (mem_c0 _).mpr (congrFun (c0r_emb y) 0)
theorem access_c1 : (cbM.access rC1).set ⊆ (c1M).view.set := fun i hi => by
  obtain ⟨y, -, rfl⟩ := Finset.mem_map.mp hi; exact (mem_c1 _).mpr (congrFun (c1r_emb y) 0)

theorem hz2 : (![0, 0] : Fin 2 → Nat) = fun _ => 0 := funext fun a => by fin_cases a <;> rfl
theorem hz3 : (![0, 0, 0] : Fin 3 → Nat) = fun _ => 0 := funext fun a => by fin_cases a <;> rfl

end Access

/-- A matrix with a unit axis put in front reads, at `(0, r, e)`, the matrix at `(r, e)`. -/
theorem cast_front {α : Type} {d n : ℕ} (x : (⟨2, ![d, n]⟩ : Shape).Idx → α) (h : (⟨2, ![d, n]⟩ : Shape).ShapeCasts ⟨3, ![1, d, n]⟩)
    (y : (⟨3, ![1, d, n]⟩ : Shape).Idx) : shapeCast ⟨3, ![1, d, n]⟩ x h y = x (ix2 (y 1) (y 2)) :=
  shapeCast_apply x h _ _ (by
    have h0 : (y 0).val = 0 := by have : (y 0).val < 1 := (y 0).isLt; omega
    rw [Shape.rowMajor_val_three, Shape.rowMajor_val_two]
    show (y 1).val * n + (y 2).val = ((y 0).val * d + (y 1).val) * n + (y 2).val
    rw [h0, Nat.zero_mul, Nat.zero_add])

/-- The two stored weight payloads and the stored compressed payload at an index. -/
theorem pay5_at (a : Vec F S64x1024 .bf16) (y : S1x64x1024.Idx) : k0_pay5 a y = a (ix2 (n0 := 64) (n1 := 1024) (y 1) (y 2)) := by
  unfold k0_pay5; rw [shapeCast_self]; exact cast_front (d := 64) (n := 1024) a _ y
theorem pay6_at (a : Vec F S64x1024 .bf16) (y : S1x64x1024.Idx) : k0_pay6 a y = a (ix2 (n0 := 64) (n1 := 1024) (y 1) (y 2)) := by
  unfold k0_pay6; rw [shapeCast_self]; exact cast_front (d := 64) (n := 1024) a _ y
theorem pay9_at (a : Vec F S2x256x1024 .bf16) (b : Vec F S1024x64 .bf16) (y : S1x512x64.Idx) :
    k0_pay9 a b y = k0_pay8 a b (ix2 (n0 := 512) (n1 := 64) (y 1) (y 2)) := by
  unfold k0_pay9; exact cast_front (d := 512) (n := 64) (k0_pay8 a b) _ y

/-- Slot 0 of the weight buffer once both blocks are stored. -/
theorem w_stored (c : Dev nD) (f : (cc0_scratch1 : Ref sig .tc).ty.Contents (Elt F)) :
    ∀ i ∈ (w0M).view.set, (wbM.access rW0hi).write (Elt F) ((wbM.access rW0lo).write (Elt F) f (k0_pay5 (wukIn m ρ c)) Finset.univ) (k0_pay6 (wuvIn m ρ c)) Finset.univ i
      = wFull m ρ c i := by
  intro i hi
  obtain ⟨y, -, rfl⟩ := Finset.mem_map.mp hi
  rw [w0_emb]
  have h128 : (y 0).val < 128 := (y 0).isLt
  show _ = stackAt (wukIn m ρ c) (wuvIn m ρ c) (y 0) (y 1)
  unfold stackAt
  by_cases h : (y 0).val < 64
  · rw [dif_pos h, View.write_of_not_mem _ _ _ (fun hm => by
      obtain ⟨z, -, hz⟩ := Finset.mem_map.mp hm
      have h1 : 64 + (z 1).val = (y 0).val := congrArg Fin.val (congrFun ((whi_emb z).symm.trans hz) 1)
      omega)]
    have e : (ix3 (0 : Fin 2) (y 0) (y 1) : S2x128x1024.Idx) = (wbM.access rW0lo).emb (ix3 (n0 := 1) (n1 := 64) (n2 := 1024) 0 ⟨(y 0).val, h⟩ (y 1)) :=
      (wlo_emb (ix3 (n0 := 1) (n1 := 64) (n2 := 1024) 0 ⟨(y 0).val, h⟩ (y 1))).symm
    refine (congrArg _ e).trans ((View.write_emb_of_mem _ _ (Finset.mem_univ _)).trans ?_)
    exact pay5_at (wukIn m ρ c) (ix3 (n0 := 1) (n1 := 64) (n2 := 1024) 0 ⟨(y 0).val, h⟩ (y 1))
  · rw [dif_neg h]
    have e : (ix3 (0 : Fin 2) (y 0) (y 1) : S2x128x1024.Idx) = (wbM.access rW0hi).emb (ix3 (n0 := 1) (n1 := 64) (n2 := 1024) 0 ⟨(y 0).val - 64, by omega⟩ (y 1)) :=
      (congrArg (fun k => (ix3 (0 : Fin 2) k (y 1) : S2x128x1024.Idx)) (Fin.ext (by show (y 0).val = 64 + ((y 0).val - 64); omega))).trans
        (whi_emb (ix3 (n0 := 1) (n1 := 64) (n2 := 1024) 0 ⟨(y 0).val - 64, by omega⟩ (y 1))).symm
    refine (congrArg _ e).trans ((View.write_emb_of_mem _ _ (Finset.mem_univ _)).trans ?_)
    exact pay6_at (wuvIn m ρ c) (ix3 (n0 := 1) (n1 := 64) (n2 := 1024) 0 ⟨(y 0).val - 64, by omega⟩ (y 1))

/-- Slot 0 of the compressed buffer once the compressed activations are stored. -/
theorem c_stored (c : Dev nD) (f : (cc0_scratch0 : Ref sig .tc).ty.Contents (Elt F)) :
    ∀ i ∈ (c0M).view.set, (cbM.access rC0).write (Elt F) f (k0_pay9 (xIn m ρ c) (wdkvIn m ρ c)) Finset.univ i = cFull m ρ c i := by
  intro i hi
  obtain ⟨y, -, rfl⟩ := Finset.mem_map.mp hi
  rw [c0_emb]
  have e : (ix3 (0 : Fin 2) (y 0) (y 1) : S2x512x64.Idx) = (cbM.access rC0).emb (ix3 (n0 := 1) (n1 := 512) (n2 := 64) 0 (y 0) (y 1)) :=
    (c0r_emb (ix3 (n0 := 1) (n1 := 512) (n2 := 64) 0 (y 0) (y 1))).symm
  refine (congrArg _ e).trans ((View.write_emb_of_mem _ _ (Finset.mem_univ _)).trans ?_)
  exact pay9_at (xIn m ρ c) (wdkvIn m ρ c) (ix3 (n0 := 1) (n1 := 512) (n2 := 64) 0 (y 0) (y 1))

section Parts

variable (K : Dev nD × Fin 5 → ℕ)

abbrev whole (c : Dev nD) (b : Ref sig .tc) (f : Buf (Elt F) ((c : Thread nD τ).loc b)) : sProp 𝕄 := ((c : Thread nD τ).loc b) ↦{fullShare} f

/-- The first part: the signal to the mate (handing it this device's two landing slots), the wait for the mate's (receiving
    its), and the two weight blocks stored in slot 0. -/
theorem run_part1 {α : Type} (Q : α → sProp 𝕄) (c : Dev nD) (W : Waits sig Unit)
    (kk : (Σ' (d0 : Dev nD) (v5 : BitVec 32) (v8 : BitVec 32), BitVec 32) → Prog (TpuEff nD τ sig (Elt F) Λ₀ .tc) α) (f0 f1 fc1) :
    iprop((cellInv ER (Rd m ρ) (K (c, 0)) (barCell c) ∗ cellInv ER (Rd m ρ) (K (peer c, 0)) (barCell (peer c)) ∗ reached ER (barCell (peer c)) 0
          ∗ levAts L lv)
        ∗ (atPos ER (barCell c) 0 ∅ 0 ∗ dutyTok ER (barCell (peer c)) 0 () ∗ cred (tallyAt (barCell c) () 1) ∗ owes (c : Thread nD τ) (O₀ c) W)
        ∗ (w0Pts c f0 ∗ w1Pts c f1 ∗ c1Pts c fc1) ∗ (whole c cc0_stg2_0 (wukIn m ρ c) ∗ whole c cc0_stg3_0 (wuvIn m ρ c))
        ∗ ((semVal (barCell c) 0 ∗ owes (c : Thread nD τ) (O₁ c) (insert (SemLoc.reg barS, ()) W) ∗ w0Pts c (wFull m ρ c)
              ∗ (∃ f, w1Pts (peer c) f) ∗ (∃ f, c1Pts (peer c) f) ∗ whole c cc0_stg2_0 (wukIn m ρ c) ∗ whole c cc0_stg3_0 (wuvIn m ρ c))
            -∗ ∀ v5 v8 v9, wp frame (wpE (defs₀ (F := F)) 𝒱₀ c none) Set.univ (kk ⟨c, v5, v8, v9⟩) Q))
      ⊢ wp frame (wpE (defs₀ (F := F)) 𝒱₀ c none) Set.univ (k0_part1 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 >>= kk) Q := by
  rw [k0_part1_eq_skeleton]; unfold k0_part1_skel
  simp only [semSignalWord, semWaitWord, Prog.lift, Prog.bind_op, Prog.bind_ret, Prog.pure_eq_ret, wp_deviceId]
  simp only [dev1_eq c]
  iintro ⟨⟨#HIb, #HIbP, #HrbP, #Hlev⟩, ⟨Hab, HtbP, Hcb, HO⟩, ⟨Hw0, Hw1, Hc1⟩, ⟨H2, H3⟩, Hk⟩
  iapply (Rounds.wp_signal 𝒱₀ ER (Rd m ρ) (c : Thread nD τ) none (dst := (peer c : Thread nD τ)) (κ := K (peer c, 0))
      (by rw [duties_bar]; exact Finset.mem_singleton_self _) ((amount_bar m ρ (peer c) ()).trans (by decide)) () (O₁ c) rfl)
    $$ [HO HtbP Hw1 Hc1]
  · isplitr; · iexact HIbP
    isplitl [HO]; · iexact HO
    isplitl [HtbP]; · iexact HtbP
    isplitl [Hw1 Hc1]
    · rw [payload_bar]; unfold barPay; rw [peer_peer]
      isplitl [Hw1]; · iexists f1; iexact Hw1
      iexists fc1; iexact Hc1
    · iexact HrbP
  iintro HO
  iapply (Rounds.wp_wait_rest_token 𝒱₀ ER (Rd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [Hcb HO Hab]
  · isplitr; · iexact HIb
    isplitl [Hcb]; · iexact Hcb
    isplitl [HO]; · iexact HO
    isplitr; · iapply (mayWait_bar c); iexact Hlev
    iexact Hab
  iintro ⟨HO, Hab, -, Hpay⟩
  ihave Hp := (Entails.of_eq (rest_bar m ρ c)) $$ Hpay
  unfold barPay
  icases Hp with ⟨Hw1P, Hc1P⟩
  imod (Rounds.cell_close ER (Rd m ρ) (Set.mem_univ (K (c, 0))) (fun h => h) (R := 0 + 1) (duties_later m ρ (barCell c))) $$ [Hab] with Hz
  · isplitr; · iexact HIb
    iexact Hab
  unfold w0Pts
  iapply (wp_load 𝒱₀ (c : Thread nD τ) none Set.univ (m := Memref.whole cc0_stg2_0) (Finset.subset_univ _)) $$ H2; iintro H2
  iapply (wp_load_rect 𝒱₀ (c : Thread nD τ) none Set.univ (m := wbM) access_wlo) $$ Hw0; iintro Hw0
  iapply (wp_store 𝒱₀ (c : Thread nD τ) none Set.univ (m := wbM) (r := rW0lo) (Mk := Finset.univ) access_wlo) $$ Hw0; iintro Hw0
  iapply (wp_load 𝒱₀ (c : Thread nD τ) none Set.univ (m := Memref.whole cc0_stg3_0) (Finset.subset_univ _)) $$ H3; iintro H3
  iapply (wp_load_rect 𝒱₀ (c : Thread nD τ) none Set.univ (m := wbM) access_whi) $$ Hw0; iintro Hw0
  iapply (wp_store 𝒱₀ (c : Thread nD τ) none Set.univ (m := wbM) (r := rW0hi) (Mk := Finset.univ) access_whi) $$ Hw0; iintro Hw0
  rw [show (Memref.whole cc0_stg2_0 : Memref sig .tc .vmem S64x1024 .bf16).view.readAt (Elt F) (Rect.unit (s := S64x1024) ![0, 0] S64x1024.size inb_S64x1024_S64x1024_0_0).toLoadRect (wukIn m ρ c) = wukIn m ρ c
      from Memref.readAt_unit_zero (Elt F) cc0_stg2_0 hz2 _ _,
    show (Memref.whole cc0_stg3_0 : Memref sig .tc .vmem S64x1024 .bf16).view.readAt (Elt F) (Rect.unit (s := S64x1024) ![0, 0] S64x1024.size inb_S64x1024_S64x1024_0_0).toLoadRect (wuvIn m ρ c) = wuvIn m ρ c
      from Memref.readAt_unit_zero (Elt F) cc0_stg3_0 hz2 _ _]
  ihave Hw0' := (Entails.of_eq (pointsTo_congr (w_stored m ρ c f0))) $$ Hw0
  iapply Hk $$ [Hz HO Hw0' Hw1P Hc1P H2 H3]
  isplitl [Hz]; · iexact Hz
  isplitl [HO]; · iexact HO
  isplitl [Hw0']; · iexact Hw0'
  isplitl [Hw1P]; · iexact Hw1P
  isplitl [Hc1P]; · iexact Hc1P
  isplitl [H2] <;> iassumption

theorem send_w (c n : Dev nD) (hn : n = peer c) {hsc : (w1M : Memref sig (Dev.tc n : Thread nD τ).2.kind .vmem S128x1024 .bf16).view.ref.isScScratch = false}
    {hsrc : (w0M : Memref sig .tc .vmem S128x1024 .bf16).view.WordExact} {hdst : (w1M : Memref sig .tc .vmem S128x1024 .bf16).view.WordExact}
    {hsem : DmaTarget.Typed .vmem (.dma recvW) (.remote (Dev.tc n : Thread nD τ) (w1M : Memref sig .tc .vmem S128x1024 .bf16) (.dma sendW) hsc)}
    {α : Type} {Q : α → sProp 𝕄} {k : PUnit → Prog (TpuEff nD τ sig (Elt F) Λ₀ .tc) α} (fn) (W : Waits sig Unit) :
    iprop(cellInv ER (Rd m ρ) (K (c, 1)) (sendWCell c) ∗ cellInv ER (Rd m ρ) (K (peer c, 3)) (recvWCell (peer c))
        ∗ w0Pts c (wFull m ρ c) ∗ w1Pts (peer c) fn ∗ owes (c : Thread nD τ) (O₁ c) W
        ∗ dutyTok ER (sendWCell c) 0 () ∗ reached ER (sendWCell c) 0 ∗ dutyTok ER (recvWCell (peer c)) 0 () ∗ reached ER (recvWCell (peer c)) 0)
      ⊢ iprop(((cred (tallyAt (sendWCell c) () NW) ∗ owes (c : Thread nD τ) (O₂ c) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma w0M (.remote (Dev.tc n : Thread nD τ) w1M (.dma sendW) hsc) (.dma recvW) hsrc hdst hsem) k) Q) := by
  subst hn
  unfold w0Pts w1Pts
  exact Rounds.wp_send_pointsTo 𝒱₀ ER (Rd m ρ) (c : Thread nD τ) none (κ₁ := K (c, 1)) (κ₂ := K (peer c, 3))
    (r₁ := 0) (r₂ := 0) (d₁ := ()) (d₂ := ()) (fd := fn)
    (by rw [duties_sendW]; exact Finset.mem_singleton_self _) (by rw [duties_recvW]; exact Finset.mem_singleton_self _)
    () () NW rfl (amount_sendW m ρ c ()) (amount_recvW m ρ (peer c) ()) (O₂ c) rfl (W := W)
    (by rw [payload_sendW]; exact BI.Entails.refl _)
    (by rw [payload_recvW]; exact Entails.of_eq (pointsTo_congr (w_landed m ρ c fn)))

theorem send_c (c n : Dev nD) (hn : n = peer c) {hsc : (c1M : Memref sig (Dev.tc n : Thread nD τ).2.kind .vmem S512x64 .bf16).view.ref.isScScratch = false}
    {hsrc : (c0M : Memref sig .tc .vmem S512x64 .bf16).view.WordExact} {hdst : (c1M : Memref sig .tc .vmem S512x64 .bf16).view.WordExact}
    {hsem : DmaTarget.Typed .vmem (.dma recvC) (.remote (Dev.tc n : Thread nD τ) (c1M : Memref sig .tc .vmem S512x64 .bf16) (.dma sendC) hsc)}
    {α : Type} {Q : α → sProp 𝕄} {k : PUnit → Prog (TpuEff nD τ sig (Elt F) Λ₀ .tc) α} (fn) (W : Waits sig Unit) :
    iprop(cellInv ER (Rd m ρ) (K (c, 2)) (sendCCell c) ∗ cellInv ER (Rd m ρ) (K (peer c, 4)) (recvCCell (peer c))
        ∗ c0Pts c (cFull m ρ c) ∗ c1Pts (peer c) fn ∗ owes (c : Thread nD τ) (O₂ c) W
        ∗ dutyTok ER (sendCCell c) 0 () ∗ reached ER (sendCCell c) 0 ∗ dutyTok ER (recvCCell (peer c)) 0 () ∗ reached ER (recvCCell (peer c)) 0)
      ⊢ iprop(((cred (tallyAt (sendCCell c) () NC) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma c0M (.remote (Dev.tc n : Thread nD τ) c1M (.dma sendC) hsc) (.dma recvC) hsrc hdst hsem) k) Q) := by
  subst hn
  unfold c0Pts c1Pts
  exact Rounds.wp_send_pointsTo 𝒱₀ ER (Rd m ρ) (c : Thread nD τ) none (κ₁ := K (c, 2)) (κ₂ := K (peer c, 4))
    (r₁ := 0) (r₂ := 0) (d₁ := ()) (d₂ := ()) (fd := fn)
    (by rw [duties_sendC]; exact Finset.mem_singleton_self _) (by rw [duties_recvC]; exact Finset.mem_singleton_self _)
    () () NC rfl (amount_sendC m ρ c ()) (amount_recvC m ρ (peer c) ()) 0 (by unfold O₂; rw [zero_add]) (W := W)
    (by rw [payload_sendC]; exact BI.Entails.refl _)
    (by rw [payload_recvC]; exact Entails.of_eq (pointsTo_congr (c_landed m ρ c fn)))

/-- The second part: the weight blocks sent; the activations compressed and stored in slot 0 of the compressed buffer. -/
theorem run_part2 {α : Type} (Q : α → sProp 𝕄) (c : Dev nD) (W : Waits sig Unit) (v5 v8 v9 : BitVec 32)
    (kk : (Σ' (v43 : FVec F S512x1024 .bf16), FVec F S512x64 .bf16) → Prog (TpuEff nD τ sig (Elt F) Λ₀ .tc) α) (f0) :
    iprop((cellInv ER (Rd m ρ) (K (c, 1)) (sendWCell c) ∗ cellInv ER (Rd m ρ) (K (peer c, 3)) (recvWCell (peer c)) ∗ reached ER (sendWCell c) 0
          ∗ reached ER (recvWCell (peer c)) 0)
        ∗ (dutyTok ER (sendWCell c) 0 () ∗ dutyTok ER (recvWCell (peer c)) 0 () ∗ owes (c : Thread nD τ) (O₁ c) W)
        ∗ (w0Pts c (wFull m ρ c) ∗ (∃ f, w1Pts (peer c) f) ∗ c0Pts c f0) ∗ (whole c cc0_stg0_0 (xIn m ρ c) ∗ whole c cc0_stg1_0 (wdkvIn m ρ c))
        ∗ ((cred (tallyAt (sendWCell c) () NW) ∗ owes (c : Thread nD τ) (O₂ c) W ∗ c0Pts c (cFull m ρ c) ∗ whole c cc0_stg0_0 (xIn m ρ c)
              ∗ whole c cc0_stg1_0 (wdkvIn m ρ c))
            -∗ wp frame (wpE (defs₀ (F := F)) 𝒱₀ c none) Set.univ (kk ⟨xRows m ρ c, comp m ρ c⟩) Q))
      ⊢ wp frame (wpE (defs₀ (F := F)) 𝒱₀ c none) Set.univ (k0_part2 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 c v5 v8 v9 >>= kk) Q := by
  rw [k0_part2_eq_skeleton]; unfold k0_part2_skel
  simp only [Prog.lift, Prog.bind_op, Prog.bind_ret, Prog.pure_eq_ret]
  iintro ⟨⟨#HIsw, #HIrwP, #Hrsw, #HrrwP⟩, ⟨Htsw, HtrwP, HO⟩, ⟨Hw0, ⟨%fn, Hw1P⟩, Hc0⟩, ⟨H0, H1⟩, Hk⟩
  iapply (send_w m ρ K c _ (dev2_eq c) fn W) $$ [Hw0 Hw1P HO Htsw HtrwP]
  · isplitr; · iexact HIsw
    isplitr; · iexact HIrwP
    isplitl [Hw0]; · iexact Hw0
    isplitl [Hw1P]; · iexact Hw1P
    isplitl [HO]; · iexact HO
    isplitl [Htsw]; · iexact Htsw
    isplitr; · iexact Hrsw
    isplitl [HtrwP]; · iexact HtrwP
    iexact HrrwP
  iintro ⟨HcS, HO⟩
  unfold c0Pts
  iapply (wp_load 𝒱₀ (c : Thread nD τ) none Set.univ (m := Memref.whole cc0_stg0_0) (Finset.subset_univ _)) $$ H0; iintro H0
  iapply (wp_load 𝒱₀ (c : Thread nD τ) none Set.univ (m := Memref.whole cc0_stg1_0) (Finset.subset_univ _)) $$ H1; iintro H1
  iapply (wp_load_rect 𝒱₀ (c : Thread nD τ) none Set.univ (m := cbM) access_c0) $$ Hc0; iintro Hc0
  iapply (wp_store 𝒱₀ (c : Thread nD τ) none Set.univ (m := cbM) (r := rC0) (Mk := Finset.univ) access_c0) $$ Hc0; iintro Hc0
  rw [show (Memref.whole cc0_stg0_0 : Memref sig .tc .vmem S2x256x1024 .bf16).view.readAt (Elt F) (Rect.unit (s := S2x256x1024) ![0, 0, 0] S2x256x1024.size inb_S2x256x1024_S2x256x1024_0_0_0).toLoadRect (xIn m ρ c) = xIn m ρ c
      from Memref.readAt_unit_zero (Elt F) cc0_stg0_0 hz3 _ _,
    show (Memref.whole cc0_stg1_0 : Memref sig .tc .vmem S1024x64 .bf16).view.readAt (Elt F) (Rect.unit (s := S1024x64) ![0, 0] S1024x64.size inb_S1024x64_S1024x64_0_0).toLoadRect (wdkvIn m ρ c) = wdkvIn m ρ c
      from Memref.readAt_unit_zero (Elt F) cc0_stg1_0 hz2 _ _]
  ihave Hc0' := (Entails.of_eq (pointsTo_congr (c_stored m ρ c f0))) $$ Hc0
  iapply Hk $$ [HcS HO Hc0' H0 H1]
  isplitl [HcS]; · iexact HcS
  isplitl [HO]; · iexact HO
  isplitl [Hc0']; · iexact Hc0'
  isplitl [H0] <;> iassumption

/-- The third part: the compressed activations sent; the device's own projections; the wait for its weight transfer to have
    left. -/
theorem run_part3 {α : Type} (Q : α → sProp 𝕄) (c : Dev nD) (W : Waits sig Unit)
    (kk : (Σ' (v68 : FVec F S512x1024 .bf16) (v72 : FVec F S512x512 .bf16) (v76 : FVec F S512x32 .bf16) (v79 : FVec F S512x1024 .f32), FVec F S512x1024 .f32)
      → Prog (TpuEff nD τ sig (Elt F) Λ₀ .tc) α) :
    iprop((cellInv ER (Rd m ρ) (K (c, 1)) (sendWCell c) ∗ cellInv ER (Rd m ρ) (K (c, 2)) (sendCCell c) ∗ cellInv ER (Rd m ρ) (K (peer c, 4)) (recvCCell (peer c))
          ∗ reached ER (sendCCell c) 0 ∗ reached ER (recvCCell (peer c)) 0)
        ∗ (atPos ER (sendWCell c) 0 ∅ 0 ∗ cred (tallyAt (sendWCell c) () NW) ∗ dutyTok ER (sendCCell c) 0 () ∗ dutyTok ER (recvCCell (peer c)) 0 ()
          ∗ owes (c : Thread nD τ) (O₂ c) W)
        ∗ (c0Pts c (cFull m ρ c) ∗ (∃ f, c1Pts (peer c) f))
        ∗ (whole c cc0_stg2_0 (wukIn m ρ c) ∗ whole c cc0_stg3_0 (wuvIn m ρ c) ∗ whole c cc0_stg4_0 (wqIn m ρ c) ∗ whole c cc0_stg5_0 (wqrIn m ρ c)
          ∗ whole c cc0_stg6_0 (wkrIn m ρ c))
        ∗ ((semVal (sendWCell c) 0 ∗ cred (tallyAt (sendCCell c) () NC) ∗ owes (c : Thread nD τ) 0 (insert (SemLoc.dma sendW, ()) W)
              ∗ w0Pts c (wFull m ρ c) ∗ whole c cc0_stg2_0 (wukIn m ρ c) ∗ whole c cc0_stg3_0 (wuvIn m ρ c) ∗ whole c cc0_stg4_0 (wqIn m ρ c)
              ∗ whole c cc0_stg5_0 (wqrIn m ρ c) ∗ whole c cc0_stg6_0 (wkrIn m ρ c))
            -∗ wp frame (wpE (defs₀ (F := F)) 𝒱₀ c none) Set.univ
                (kk ⟨qAll m ρ c, qrAll m ρ c, krAll m ρ c, k0_pay13 (comp m ρ c) (wukIn m ρ c), k0_pay14 (comp m ρ c) (wuvIn m ρ c)⟩) Q))
      ⊢ wp frame (wpE (defs₀ (F := F)) 𝒱₀ c none) Set.univ (k0_part3 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 c (xRows m ρ c) (comp m ρ c) >>= kk) Q := by
  rw [k0_part3_eq_skeleton]; unfold k0_part3_skel
  simp only [Prog.lift, Prog.bind_op, Prog.bind_ret, Prog.pure_eq_ret]
  iintro ⟨⟨#HIsw, #HIsc, #HIrcP, #Hrsc, #HrrcP⟩, ⟨Hasw, Hcsw, Htsc, HtrcP, HO⟩, ⟨Hc0, ⟨%fn, Hc1P⟩⟩, ⟨H2, H3, H4, H5, H6⟩, Hk⟩
  iapply (send_c m ρ K c _ (dev3_eq c) fn W) $$ [Hc0 Hc1P HO Htsc HtrcP]
  · isplitr; · iexact HIsc
    isplitr; · iexact HIrcP
    isplitl [Hc0]; · iexact Hc0
    isplitl [Hc1P]; · iexact Hc1P
    isplitl [HO]; · iexact HO
    isplitl [Htsc]; · iexact Htsc
    isplitr; · iexact Hrsc
    isplitl [HtrcP]; · iexact HtrcP
    iexact HrrcP
  iintro ⟨HcS, HO⟩
  iapply (wp_load 𝒱₀ (c : Thread nD τ) none Set.univ (m := Memref.whole cc0_stg4_0) (Finset.subset_univ _)) $$ H4; iintro H4
  iapply (wp_load 𝒱₀ (c : Thread nD τ) none Set.univ (m := Memref.whole cc0_stg5_0) (Finset.subset_univ _)) $$ H5; iintro H5
  iapply (wp_load 𝒱₀ (c : Thread nD τ) none Set.univ (m := Memref.whole cc0_stg6_0) (Finset.subset_univ _)) $$ H6; iintro H6
  iapply (wp_load 𝒱₀ (c : Thread nD τ) none Set.univ (m := Memref.whole cc0_stg2_0) (Finset.subset_univ _)) $$ H2; iintro H2
  iapply (wp_load 𝒱₀ (c : Thread nD τ) none Set.univ (m := Memref.whole cc0_stg3_0) (Finset.subset_univ _)) $$ H3; iintro H3
  rw [show (Memref.whole cc0_stg4_0 : Memref sig .tc .vmem S1024x1024 .bf16).view.readAt (Elt F) (Rect.unit (s := S1024x1024) ![0, 0] S1024x1024.size inb_S1024x1024_S1024x1024_0_0).toLoadRect (wqIn m ρ c) = wqIn m ρ c
      from Memref.readAt_unit_zero (Elt F) cc0_stg4_0 hz2 _ _,
    show (Memref.whole cc0_stg5_0 : Memref sig .tc .vmem S1024x512 .bf16).view.readAt (Elt F) (Rect.unit (s := S1024x512) ![0, 0] S1024x512.size inb_S1024x512_S1024x512_0_0).toLoadRect (wqrIn m ρ c) = wqrIn m ρ c
      from Memref.readAt_unit_zero (Elt F) cc0_stg5_0 hz2 _ _,
    show (Memref.whole cc0_stg6_0 : Memref sig .tc .vmem S1024x32 .bf16).view.readAt (Elt F) (Rect.unit (s := S1024x32) ![0, 0] S1024x32.size inb_S1024x32_S1024x32_0_0).toLoadRect (wkrIn m ρ c) = wkrIn m ρ c
      from Memref.readAt_unit_zero (Elt F) cc0_stg6_0 hz2 _ _,
    show (Memref.whole cc0_stg2_0 : Memref sig .tc .vmem S64x1024 .bf16).view.readAt (Elt F) (Rect.unit (s := S64x1024) ![0, 0] S64x1024.size inb_S64x1024_S64x1024_0_0).toLoadRect (wukIn m ρ c) = wukIn m ρ c
      from Memref.readAt_unit_zero (Elt F) cc0_stg2_0 hz2 _ _,
    show (Memref.whole cc0_stg3_0 : Memref sig .tc .vmem S64x1024 .bf16).view.readAt (Elt F) (Rect.unit (s := S64x1024) ![0, 0] S64x1024.size inb_S64x1024_S64x1024_0_0).toLoadRect (wuvIn m ρ c) = wuvIn m ρ c
      from Memref.readAt_unit_zero (Elt F) cc0_stg3_0 hz2 _ _]
  iapply (Rounds.wp_wait_rest_token 𝒱₀ ER (Rd m ρ) (c : Thread nD τ) none (κ := K (c, 1))
      (wpE_waitDma2_eq 𝒱₀ (c : Thread nD τ) none Set.univ) (Set.mem_univ _) () (O := 0) (W := W) (R := 0) (m := 0) (T := ∅)
      (by rw [Nat.zero_add, expect_sendW])) $$ [Hcsw HO Hasw]
  · isplitr; · iexact HIsw
    isplitl [Hcsw]; · iexact Hcsw
    isplitl [HO]; · iexact HO
    isplitr; · rw [MayWait_zero]; iempintro
    iexact Hasw
  iintro ⟨HO, Hasw, -, Hpay⟩
  ihave Hw0 := (Entails.of_eq (rest_sendW m ρ c)) $$ Hpay
  imod (Rounds.cell_close ER (Rd m ρ) (Set.mem_univ (K (c, 1))) (fun h => h) (R := 0 + 1) (duties_later m ρ (sendWCell c))) $$ [Hasw] with Hz1
  · isplitr; · iexact HIsw
    iexact Hasw
  unfold sendWPay
  iapply Hk $$ [Hz1 HcS HO Hw0 H2 H3 H4 H5 H6]
  isplitl [Hz1]; · iexact Hz1
  isplitl [HcS]; · iexact HcS
  isplitl [HO]; · iexact HO
  isplitl [Hw0]; · iexact Hw0
  isplitl [H2]; · iexact H2
  isplitl [H3]; · iexact H3
  isplitl [H4]; · iexact H4
  isplitl [H5] <;> iassumption

/-- The fourth part: the waits for the mate's weight blocks and for this device's second transfer to have left. -/
theorem run_part4 {α : Type} (Q : α → sProp 𝕄) (c : Dev nD) (W : Waits sig Unit) (v5 v8 v9 : BitVec 32)
    (kk : PUnit → Prog (TpuEff nD τ sig (Elt F) Λ₀ .tc) α) :
    iprop((cellInv ER (Rd m ρ) (K (c, 3)) (recvWCell c) ∗ cellInv ER (Rd m ρ) (K (c, 2)) (sendCCell c))
        ∗ (atPos ER (recvWCell c) 0 ∅ 0 ∗ cred (tallyAt (recvWCell c) () NW) ∗ atPos ER (sendCCell c) 0 ∅ 0 ∗ cred (tallyAt (sendCCell c) () NC)
          ∗ owes (c : Thread nD τ) 0 W)
        ∗ ((semVal (recvWCell c) 0 ∗ semVal (sendCCell c) 0 ∗ owes (c : Thread nD τ) 0 (insert (SemLoc.dma sendC, ()) (insert (SemLoc.dma recvW, ()) W))
              ∗ w1Pts c (wFull m ρ c) ∗ c0Pts c (cFull m ρ c))
            -∗ wp frame (wpE (defs₀ (F := F)) 𝒱₀ c none) Set.univ (kk ⟨⟩) Q))
      ⊢ wp frame (wpE (defs₀ (F := F)) 𝒱₀ c none) Set.univ (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 v5 v8 v9 >>= kk) Q := by
  rw [k0_part4_eq_skeleton]; unfold k0_part4_skel
  simp only [Prog.lift, Prog.bind_op, Prog.bind_ret, Prog.pure_eq_ret]
  iintro ⟨⟨#HIrw, #HIsc⟩, ⟨Harw, Hcrw, Hasc, Hcsc, HO⟩, Hk⟩
  iapply (Rounds.wp_wait_rest_token 𝒱₀ ER (Rd m ρ) (c : Thread nD τ) none (κ := K (c, 3))
      (wpE_waitDma2_eq 𝒱₀ (c : Thread nD τ) none Set.univ) (Set.mem_univ _) () (O := 0) (W := W) (R := 0) (m := 0) (T := ∅)
      (by rw [Nat.zero_add, expect_recvW])) $$ [Hcrw HO Harw]
  · isplitr; · iexact HIrw
    isplitl [Hcrw]; · iexact Hcrw
    isplitl [HO]; · iexact HO
    isplitr; · rw [MayWait_zero]; iempintro
    iexact Harw
  iintro ⟨HO, Harw, -, Hpay⟩
  ihave Hw1 := (Entails.of_eq (rest_recvW m ρ c)) $$ Hpay
  imod (Rounds.cell_close ER (Rd m ρ) (Set.mem_univ (K (c, 3))) (fun h => h) (R := 0 + 1) (duties_later m ρ (recvWCell c))) $$ [Harw] with Hz3
  · isplitr; · iexact HIrw
    iexact Harw
  iapply (Rounds.wp_wait_rest_token 𝒱₀ ER (Rd m ρ) (c : Thread nD τ) none (κ := K (c, 2))
      (wpE_waitDma2_eq 𝒱₀ (c : Thread nD τ) none Set.univ) (Set.mem_univ _) () (O := 0) (W := insert (SemLoc.dma recvW, ()) W) (R := 0) (m := 0) (T := ∅)
      (by rw [Nat.zero_add, expect_sendC])) $$ [Hcsc HO Hasc]
  · isplitr; · iexact HIsc
    isplitl [Hcsc]; · iexact Hcsc
    isplitl [HO]; · iexact HO
    isplitr; · rw [MayWait_zero]; iempintro
    iexact Hasc
  iintro ⟨HO, Hasc, -, Hpay⟩
  ihave Hc0 := (Entails.of_eq (rest_sendC m ρ c)) $$ Hpay
  imod (Rounds.cell_close ER (Rd m ρ) (Set.mem_univ (K (c, 2))) (fun h => h) (R := 0 + 1) (duties_later m ρ (sendCCell c))) $$ [Hasc] with Hz2
  · isplitr; · iexact HIsc
    iexact Hasc
  unfold recvWPay sendCPay
  iapply Hk $$ [Hz3 Hz2 HO Hw1 Hc0]
  isplitl [Hz3]; · iexact Hz3
  isplitl [Hz2]; · iexact Hz2
  isplitl [HO]; · iexact HO
  isplitl [Hw1] <;> iassumption

/-- The mate's data as the body reads it back from the two slot 1s. -/
theorem read_c1 (c : Dev nD) : (cbM.access rC1).read (Elt F) (cFull m ρ c) = compPeer m ρ c := funext fun y =>
  (congrArg (cFull m ρ c) (c1r_emb y))
theorem read_w1lo (c : Dev nD) : (wbM.access rW1lo).read (Elt F) (wFull m ρ c) = wukPeer m ρ c := funext fun y =>
  (congrArg (wFull m ρ c) (w1lo_emb y)).trans (dif_pos (show (y 1).val < 64 from (y 1).isLt))
theorem read_w1hi (c : Dev nD) : (wbM.access rW1hi).read (Elt F) (wFull m ρ c) = wuvPeer m ρ c := funext fun y =>
  (congrArg (wFull m ρ c) (w1hi_emb y)).trans ((dif_neg (show ¬ 64 + (y 1).val < 64 by omega)).trans
    (congrArg (fun k => wuvIn m ρ (peer c) (ix2 (n0 := 64) (n1 := 1024) k (y 2))) (Fin.ext (by show 64 + (y 1).val - 64 = (y 1).val; omega))))

/-- The fifth part: the wait for the mate's compressed activations; keys and values of both devices' parts; the first head. -/
theorem run_part5 {α : Type} (Q : α → sProp 𝕄) (c : Dev nD) (W : Waits sig Unit) (fa)
    (kk : (Σ' (v125 : FVec F S512x1024 .bf16) (v130 : FVec F S512x1024 .bf16) (v131 : FVec F S256x32 .bf16), FVec F S256x64 .bf16)
      → Prog (TpuEff nD τ sig (Elt F) Λ₀ .tc) α) :
    iprop(cellInv ER (Rd m ρ) (K (c, 4)) (recvCCell c)
        ∗ (atPos ER (recvCCell c) 0 ∅ 0 ∗ cred (tallyAt (recvCCell c) () NC) ∗ owes (c : Thread nD τ) 0 W)
        ∗ (w1Pts c (wFull m ρ c) ∗ whole c cc0_scratch2 fa)
        ∗ ((semVal (recvCCell c) 0 ∗ owes (c : Thread nD τ) 0 (insert (SemLoc.dma recvC, ()) W) ∗ w1Pts c (wFull m ρ c) ∗ c1Pts c (cFull m ρ c)
              ∗ whole c cc0_scratch2 fa)
            -∗ wp frame (wpE (defs₀ (F := F)) 𝒱₀ c none) Set.univ
                (kk ⟨kAll m ρ c, vAll m ρ c, k0_pay18 (krAll m ρ c),
                  k0_pay19 (qAll m ρ c) (qrAll m ρ c) (krAll m ρ c) (k0_pay13 (comp m ρ c) (wukIn m ρ c)) (k0_pay14 (comp m ρ c) (wuvIn m ρ c))
                    (compPeer m ρ c) (wukPeer m ρ c) (wuvPeer m ρ c)⟩) Q))
      ⊢ wp frame (wpE (defs₀ (F := F)) 𝒱₀ c none) Set.univ (k0_part5 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4 (qAll m ρ c) (qrAll m ρ c) (krAll m ρ c)
          (k0_pay13 (comp m ρ c) (wukIn m ρ c)) (k0_pay14 (comp m ρ c) (wuvIn m ρ c)) >>= kk) Q := by
  rw [k0_part5_eq_skeleton]; unfold k0_part5_skel
  simp only [Prog.lift, Prog.bind_op, Prog.bind_ret, Prog.pure_eq_ret]
  iintro ⟨#HIrc, ⟨Harc, Hcrc, HO⟩, ⟨Hw1, Ha⟩, Hk⟩
  iapply (Rounds.wp_wait_rest_token 𝒱₀ ER (Rd m ρ) (c : Thread nD τ) none (κ := K (c, 4))
      (wpE_waitDma2_eq 𝒱₀ (c : Thread nD τ) none Set.univ) (Set.mem_univ _) () (O := 0) (W := W) (R := 0) (m := 0) (T := ∅)
      (by rw [Nat.zero_add, expect_recvC])) $$ [Hcrc HO Harc]
  · isplitr; · iexact HIrc
    isplitl [Hcrc]; · iexact Hcrc
    isplitl [HO]; · iexact HO
    isplitr; · rw [MayWait_zero]; iempintro
    iexact Harc
  iintro ⟨HO, Harc, -, Hpay⟩
  ihave Hc1 := (Entails.of_eq (rest_recvC m ρ c)) $$ Hpay
  imod (Rounds.cell_close ER (Rd m ρ) (Set.mem_univ (K (c, 4))) (fun h => h) (R := 0 + 1) (duties_later m ρ (recvCCell c))) $$ [Harc] with Hz4
  · isplitr; · iexact HIrc
    iexact Harc
  unfold recvCPay c1Pts w1Pts
  iapply (wp_load_rect 𝒱₀ (c : Thread nD τ) none Set.univ (m := cbM) access_c1) $$ Hc1; iintro Hc1
  iapply (wp_load_rect 𝒱₀ (c : Thread nD τ) none Set.univ (m := wbM) access_w1lo) $$ Hw1; iintro Hw1
  iapply (wp_load_rect 𝒱₀ (c : Thread nD τ) none Set.univ (m := wbM) access_w1hi) $$ Hw1; iintro Hw1
  iapply (wp_load 𝒱₀ (c : Thread nD τ) none Set.univ (m := Memref.whole cc0_scratch2) (Finset.subset_univ _)) $$ Ha; iintro Ha
  rw [read_c1, read_w1lo, read_w1hi]
  iapply Hk $$ [Hz4 HO Hw1 Hc1 Ha]
  isplitl [Hz4]; · iexact Hz4
  isplitl [HO]; · iexact HO
  isplitl [Hw1]; · iexact Hw1
  isplitl [Hc1] <;> iassumption

end Parts

end Cert.KernelIdeal.Swap
-- ==== Proof.Body.lean ====
/-
# The body, run

One device's body from its staged inputs, its scratch buffers and its part of the exchange, to the result in its output buffer.
-/
module

public import proofs.«01_k».proof.Proof.Parts
public import Idealize.ShloMosaic.Lib.Ring

@[expose] public section

set_option maxRecDepth 16384

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the stores leave -/

section Stored

variable (q k v : FVec F S512x1024 .bf16) (qr : FVec F S512x512 .bf16) (kr : FVec F S512x32 .bf16)

/-- A head of equal numbers at an equal index. -/
theorem tile_congr {b b' h h' : ℕ} (eb : b = b') (eh : h = h') (hb : b < 2) (hh : h < 16) (hb' : b' < 2) (hh' : h' < 16) {x x' : S256x64.Idx}
    (ex : x = x') : tile q k v qr kr b h hb hh x = tile q k v qr kr b' h' hb' hh' x' := by
  subst eb eh ex; rfl

/-- Head `h` of batch row `b` is the block of the attention buffer at row `256·b` and column `64·h`. -/
theorem tile_at (b h : ℕ) (hb : b < 2) (hh : h < 16) (inb : ∀ a, (![256 * b, 64 * h] : Fin 2 → ℕ) a + S256x64.size a ≤ S512x1024.size a)
    (x : S256x64.Idx) :
    tile q k v qr kr b h hb hh x = attnOf q k v qr kr ((Rect.unit (s := S512x1024) ![256 * b, 64 * h] S256x64.size inb).emb x) := by
  have h0 : (x 0).val < 256 := (x 0).isLt
  have h1 : (x 1).val < 64 := (x 1).isLt
  have e0 : (((Rect.unit (s := S512x1024) ![256 * b, 64 * h] S256x64.size inb).emb x) 0).val = 256 * b + (x 0).val := by
    show 256 * b + 1 * (x 0).val = _; omega
  have e1 : (((Rect.unit (s := S512x1024) ![256 * b, 64 * h] S256x64.size inb).emb x) 1).val = 64 * h + (x 1).val := by
    show 64 * h + 1 * (x 1).val = _; omega
  unfold attnOf
  refine tile_congr q k v qr kr (by rw [e0]; omega) (by rw [e1]; omega) _ _ _ _ ?_
  refine (eq_ix2 x).trans ?_
  have f0 : x 0 = (⟨(((Rect.unit (s := S512x1024) ![256 * b, 64 * h] S256x64.size inb).emb x) 0).val % 256, Nat.mod_lt _ (by decide)⟩ : Fin 256) :=
    Fin.ext (by show (x 0).val = _ % 256; rw [e0]; omega)
  have f1 : x 1 = (⟨(((Rect.unit (s := S512x1024) ![256 * b, 64 * h] S256x64.size inb).emb x) 1).val % 64, Nat.mod_lt _ (by decide)⟩ : Fin 64) :=
    Fin.ext (by show (x 1).val = _ % 64; rw [e1]; omega)
  exact congrArg₂ (fun (a : Fin 256) (b : Fin 64) => (ix2 a b : S256x64.Idx)) f0 f1

/-- The head over the rows from `o0` and the columns from `o1` (from `o2` for the rotary part). -/
abbrev headAt (o0 o1 o2 : ℕ) (hs : S512x1024.Slices ![o0, o1] S256x64) (hr : S512x512.Slices ![o0, o2] S256x32)
    (hk : S512x32.Slices ![o0, 0] S256x32) : FVec F S256x64 .bf16 :=
  headOf (extractStridedSlice S256x64 ![o0, o1] q hs) (extractStridedSlice S256x64 ![o0, o1] k hs) (extractStridedSlice S256x64 ![o0, o1] v hs)
    (extractStridedSlice S256x32 ![o0, o2] qr hr) (extractStridedSlice S256x32 ![o0, 0] kr hk)

/-- The places of head `h` of batch row `b` lie inside the buffers it is read from and stored in. -/
theorem in_head (b h : ℕ) (hb : b < 2) (hh : h < 16) {o0 o1 : ℕ} (h0 : o0 = 256 * b) (h1 : o1 = 64 * h) :
    ∀ a, (![o0, o1] : Fin 2 → ℕ) a + S256x64.size a ≤ S512x1024.size a := by
  subst h0 h1; intro a; fin_cases a <;> simp [S256x64, S512x1024] <;> omega

/-- A stored payload that is head `h` of batch row `b`, stored at the place of that head, is a block of the attention buffer. -/
theorem piece_at {w : S256x64.Idx → Elt F .bf16} (b h : ℕ) (hb : b < 2) (hh : h < 16) {o0 o1 : ℕ} (o2 : ℕ) (h0 : o0 = 256 * b) (h1 : o1 = 64 * h)
    (h2 : o2 = 32 * h) (hw : w = headAt q k v qr kr o0 o1 o2 (h0 ▸ h1 ▸ slices_head b h hb hh) (h0 ▸ h2 ▸ slices_rot b h hb hh)
      (h0 ▸ slices_key b hb)) (x : S256x64.Idx) :
    w x = attnOf q k v qr kr ((Rect.unit (s := S512x1024) ![o0, o1] S256x64.size (in_head b h hb hh h0 h1)).emb x) := by
  subst h0 h1 h2 hw; exact tile_at q k v qr kr b h hb hh _ x

/-- The attention buffer read whole after stores that are blocks of `G` and cover it reads `G`. -/
theorem read_attn (G : FVec F S512x1024 .bf16) (L : List (View.Piece (Elt F) S512x1024 .bf16)) (hG : View.PiecesOf G L)
    (hc : ∀ y : S512x1024.Idx, ∃ p ∈ L, y ∈ p.1.set) (inb) :
    (Memref.whole cc0_scratch2).view.readCov L (Rect.unit ![0, 0] S512x1024.size inb).toLoadRect = G := by
  unfold View.readCov
  refine (Memref.readAt_unit_zero (Elt F) cc0_scratch2 hz2 inb _).trans ?_
  funext y
  exact View.read_writes_apply_of_pieces (Memref.whole cc0_scratch2).view _ G L hG.mem y (hc y)

/-- The two stored halves of the result, at an index. -/
theorem pay3_at (a : Vec F S512x1024 .bf16) (w : Vec F S1024x1024 .bf16) (y : S1x256x1024.Idx) :
    k0_pay3 a w y = k0_pay2 a w (ix2 (n0 := 512) (n1 := 1024) ⟨256 * 0 + (y 1).val, by have : (y 1).val < 256 := (y 1).isLt; omega⟩ (y 2)) := by
  unfold k0_pay3
  refine (cast_front (d := 256) (n := 1024) _ _ y).trans ?_
  refine extractStridedSlice_apply _ _ _ _ _ fun a => ?_
  fin_cases a
  · rfl
  · exact (Nat.zero_add _).symm
theorem pay4_at (a : Vec F S512x1024 .bf16) (w : Vec F S1024x1024 .bf16) (y : S1x256x1024.Idx) :
    k0_pay4 a w y = k0_pay2 a w (ix2 (n0 := 512) (n1 := 1024) ⟨256 * 1 + (y 1).val, by have : (y 1).val < 256 := (y 1).isLt; omega⟩ (y 2)) := by
  unfold k0_pay4
  refine (cast_front (d := 256) (n := 1024) _ _ y).trans ?_
  refine extractStridedSlice_apply _ _ _ _ _ fun a => ?_
  fin_cases a
  · rfl
  · exact (Nat.zero_add _).symm

/-- Half `b` of the result is the block of `outAt` at batch row `b`. -/
theorem out_half (c : Dev nD) (b : ℕ) (hb : b < 2) (inb : ∀ a, (![b, 0, 0] : Fin 3 → ℕ) a + S1x256x1024.size a ≤ S2x256x1024.size a)
    (y : S1x256x1024.Idx) :
    k0_pay2 (attnAt m ρ c) (woIn m ρ c) (ix2 (n0 := 512) (n1 := 1024) ⟨256 * b + (y 1).val, by have : (y 1).val < 256 := (y 1).isLt; omega⟩ (y 2))
      = outAt m ρ c ((Rect.unit (s := S2x256x1024) ![b, 0, 0] S1x256x1024.size inb).emb y) := by
  have h0 : (y 0).val = 0 := by have : (y 0).val < 1 := (y 0).isLt; omega
  unfold outAt
  refine congrArg _ (congrArg₂ (fun (a : Fin 512) (b : Fin 1024) => (ix2 a b : S512x1024.Idx)) (Fin.ext ?_) (Fin.ext ?_))
  · show 256 * b + (y 1).val = 256 * (b + 1 * (y 0).val) + (0 + 1 * (y 1).val)
    rw [h0]; omega
  · show (y 2).val = 0 + 1 * (y 2).val
    omega

/-- Stores that are blocks of `G` and cover the output buffer leave `G` in it. -/
theorem read_out (g G : (cc0_stg8_0 : Ref sig .tc).ty.Contents (Elt F)) (L : List (View.Piece (Elt F) S2x256x1024 .f32)) (hG : View.PiecesOf G L)
    (hc : ∀ y : S2x256x1024.Idx, ∃ p ∈ L, y ∈ p.1.set) : (Memref.whole cc0_stg8_0).view.writes (Elt F) g L = G := by
  funext y
  exact View.read_writes_apply_of_pieces (Memref.whole cc0_stg8_0).view g G L hG.mem y (hc y)

/-- The output buffer after its two stores. -/
theorem out_stored (c : Dev nD) (g : (cc0_stg8_0 : Ref sig .tc).ty.Contents (Elt F)) (inb0 inb1) :
    (Memref.whole cc0_stg8_0).view.writes (Elt F) g
      [⟨Rect.unit ![1, 0, 0] S1x256x1024.size inb1, k0_pay4 (attnAt m ρ c) (woIn m ρ c)⟩,
        ⟨Rect.unit ![0, 0, 0] S1x256x1024.size inb0, k0_pay3 (attnAt m ρ c) (woIn m ρ c)⟩] = outAt m ρ c :=
  read_out g (outAt m ρ c) _
    ⟨fun x => (pay4_at (attnAt m ρ c) (woIn m ρ c) x).trans (out_half m ρ c 1 (by decide) inb1 x),
      fun x => (pay3_at (attnAt m ρ c) (woIn m ρ c) x).trans (out_half m ρ c 0 (by decide) inb0 x), trivial⟩
    (View.cover_of_tiledL _ S1x256x1024.size (by sl_kernel_rfl))

end Stored

section Body

variable (K : Dev nD × Fin 5 → ℕ)

/-- A whole buffer held through the memref the body reads and writes it by. -/
abbrev held (c : Dev nD) (b : Ref sig .tc) (f : Buf (Elt F) ((c : Thread nD τ).loc b)) : sProp 𝕄 :=
  (Memref.whole b).view.loc (c : Thread nD τ) ↦{fullShare} f

/-- The two ways to hold a whole buffer are the same. -/
theorem whole_eq_held (c : Dev nD) (b : Ref sig .tc) (f) : (whole c b f : sProp 𝕄) = held c b f := rfl

/-- The eight staged inputs. -/
abbrev inputs (c : Dev nD) : sProp 𝕄 :=
  iprop(whole c cc0_stg0_0 (xIn m ρ c) ∗ whole c cc0_stg1_0 (wdkvIn m ρ c) ∗ whole c cc0_stg2_0 (wukIn m ρ c) ∗ whole c cc0_stg3_0 (wuvIn m ρ c)
    ∗ whole c cc0_stg4_0 (wqIn m ρ c) ∗ whole c cc0_stg5_0 (wqrIn m ρ c) ∗ whole c cc0_stg6_0 (wkrIn m ρ c) ∗ whole c cc0_stg7_0 (woIn m ρ c))

/-- One device's body, run from its inputs, its scratch and its part of the exchange: it leaves the result, its scratch, its cells at
    zero and no debt. -/
theorem sound_body (c : Dev nD) (W : Waits sig Unit) (Kt : PUnit → sProp 𝕄) :
    iprop((ghost m ρ K c ∗ credits c ∗ levAts L lv ∗ scratch c) ∗ owes (c : Thread nD τ) (O₀ c) W ∗ inputs m ρ c ∗ (∃ g, whole c cc0_stg8_0 g)
        ∗ ((scratch c ∗ closed c ∗ (∃ W', owes (c : Thread nD τ) 0 W') ∗ inputs m ρ c ∗ whole c cc0_stg8_0 (outAt m ρ c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) Kt := by
  simp only [cc0_body_eq_skeleton]; unfold cc0_body_skel
  unfold ghost invs opened atCells payToks credits scratch closed
  iintro ⟨⟨⟨⟨#HIb, #HIsw, #HIsc, #HIrw, #HIrc, #HIbP, #HIrwP, #HIrcP⟩, ⟨#HrbP, #Hrsw, #Hrsc, #HrrwP, #HrrcP⟩, ⟨Hab, Hasw, Hasc, Harw, Harc⟩,
    ⟨HtbP, Htsw, Htsc, HtrwP, HtrcP⟩⟩, ⟨Hcb, Hcrw, Hcrc⟩, #Hlev, ⟨⟨%fc, Hc⟩, ⟨%fw, Hw⟩, ⟨%fa, Ha⟩⟩⟩, HO, ⟨H0, H1, H2, H3, H4, H5, H6, H7⟩, ⟨%g, H8⟩, Hk⟩
  ihave Hws := (w_slots c fw).1 $$ Hw
  icases Hws with ⟨Hw0, Hw1⟩
  ihave Hcs := (c_slots c fc).1 $$ Hc
  icases Hcs with ⟨Hc0, Hc1⟩
  iapply (run_part1 m ρ K _ c W _ fw fw fc)
  isplitr
  · isplitr; · iexact HIb
    isplitr; · iexact HIbP
    isplitr; · iexact HrbP
    iexact Hlev
  isplitl [Hab HtbP Hcb HO]
  · isplitl [Hab]; · iexact Hab
    isplitl [HtbP]; · iexact HtbP
    isplitl [Hcb] <;> iassumption
  isplitl [Hw0 Hw1 Hc1]
  · isplitl [Hw0]; · iexact Hw0
    isplitl [Hw1] <;> iassumption
  isplitl [H2 H3]
  · isplitl [H2] <;> iassumption
  iintro ⟨Hz0, HO, Hw0, Hw1P, Hc1P, H2, H3⟩
  iintro %v5 %v8 %v9
  iapply (run_part2 m ρ K _ c (insert (SemLoc.reg barS, ()) W) v5 v8 v9 _ fc)
  isplitr
  · isplitr; · iexact HIsw
    isplitr; · iexact HIrwP
    isplitr; · iexact Hrsw
    iexact HrrwP
  isplitl [Htsw HtrwP HO]
  · isplitl [Htsw]; · iexact Htsw
    isplitl [HtrwP] <;> iassumption
  isplitl [Hw0 Hw1P Hc0]
  · isplitl [Hw0]; · iexact Hw0
    isplitl [Hw1P] <;> iassumption
  isplitl [H0 H1]
  · isplitl [H0] <;> iassumption
  iintro ⟨Hcsw, HO, Hc0, H0, H1⟩
  iapply (run_part3 m ρ K _ c (insert (SemLoc.reg barS, ()) W) _)
  isplitr
  · isplitr; · iexact HIsw
    isplitr; · iexact HIsc
    isplitr; · iexact HIrcP
    isplitr; · iexact Hrsc
    iexact HrrcP
  isplitl [Hasw Hcsw Htsc HtrcP HO]
  · isplitl [Hasw]; · iexact Hasw
    isplitl [Hcsw]; · iexact Hcsw
    isplitl [Htsc]; · iexact Htsc
    isplitl [HtrcP] <;> iassumption
  isplitl [Hc0 Hc1P]
  · isplitl [Hc0] <;> iassumption
  isplitl [H2 H3 H4 H5 H6]
  · isplitl [H2]; · iexact H2
    isplitl [H3]; · iexact H3
    isplitl [H4]; · iexact H4
    isplitl [H5] <;> iassumption
  iintro ⟨Hz1, Hcsc, HO, Hw0, H2, H3, H4, H5, H6⟩
  iapply (run_part4 m ρ K _ c (insert (SemLoc.dma sendW, ()) (insert (SemLoc.reg barS, ()) W)) v5 v8 v9 _)
  isplitr
  · isplitr; · iexact HIrw
    iexact HIsc
  isplitl [Harw Hcrw Hasc Hcsc HO]
  · isplitl [Harw]; · iexact Harw
    isplitl [Hcrw]; · iexact Hcrw
    isplitl [Hasc]; · iexact Hasc
    isplitl [Hcsc] <;> iassumption
  iintro ⟨Hz3, Hz2, HO, Hw1, Hc0⟩
  iapply (run_part5 m ρ K _ c (insert (SemLoc.dma sendC, ()) (insert (SemLoc.dma recvW, ()) (insert (SemLoc.dma sendW, ()) (insert (SemLoc.reg barS, ()) W)))) fa _)
  isplitr; · iexact HIrc
  isplitl [Harc Hcrc HO]
  · isplitl [Harc]; · iexact Harc
    isplitl [Hcrc] <;> iassumption
  isplitl [Hw1 Ha]
  · isplitl [Hw1] <;> iassumption
  iintro ⟨Hz4, HO, Hw1, Hc1, Ha⟩
  iclear HIb HIsw HIsc HIrw HIrc HIbP HIrwP HIrcP HrbP Hrsw Hrsc HrrwP HrrcP Hlev
  ihave Ha := (Entails.of_eq (whole_eq_held c cc0_scratch2 fa)) $$ Ha
  ihave H7 := (Entails.of_eq (whole_eq_held c cc0_stg7_0 (woIn m ρ c))) $$ H7
  ihave H8 := (Entails.of_eq (whole_eq_held c cc0_stg8_0 g)) $$ H8
  dsimp only
  sl_exec
  sl_step
  have h901 : sound_body.sl.v901 m ρ c = attnAt m ρ c := by
    unfold sound_body.sl.v901 sound_body.sl.Ha_32
    refine read_attn (attnAt m ρ c) _ ?_ (View.cover_of_tiledL _ S256x64.size (by sl_kernel_rfl)) _
    exact ⟨piece_at _ _ _ _ _ (o0 := 256) (o1 := 960) 1 15 (by decide) (by decide) 480 rfl rfl rfl (by sl_kernel_rfl),
      piece_at _ _ _ _ _ (o0 := 256) (o1 := 896) 1 14 (by decide) (by decide) 448 rfl rfl rfl (by sl_kernel_rfl),
      piece_at _ _ _ _ _ (o0 := 256) (o1 := 832) 1 13 (by decide) (by decide) 416 rfl rfl rfl (by sl_kernel_rfl),
      piece_at _ _ _ _ _ (o0 := 256) (o1 := 768) 1 12 (by decide) (by decide) 384 rfl rfl rfl (by sl_kernel_rfl),
      piece_at _ _ _ _ _ (o0 := 256) (o1 := 704) 1 11 (by decide) (by decide) 352 rfl rfl rfl (by sl_kernel_rfl),
      piece_at _ _ _ _ _ (o0 := 256) (o1 := 640) 1 10 (by decide) (by decide) 320 rfl rfl rfl (by sl_kernel_rfl),
      piece_at _ _ _ _ _ (o0 := 256) (o1 := 576) 1 9 (by decide) (by decide) 288 rfl rfl rfl (by sl_kernel_rfl),
      piece_at _ _ _ _ _ (o0 := 256) (o1 := 512) 1 8 (by decide) (by decide) 256 rfl rfl rfl (by sl_kernel_rfl),
      piece_at _ _ _ _ _ (o0 := 256) (o1 := 448) 1 7 (by decide) (by decide) 224 rfl rfl rfl (by sl_kernel_rfl),
      piece_at _ _ _ _ _ (o0 := 256) (o1 := 384) 1 6 (by decide) (by decide) 192 rfl rfl rfl (by sl_kernel_rfl),
      piece_at _ _ _ _ _ (o0 := 256) (o1 := 320) 1 5 (by decide) (by decide) 160 rfl rfl rfl (by sl_kernel_rfl),
      piece_at _ _ _ _ _ (o0 := 256) (o1 := 256) 1 4 (by decide) (by decide) 128 rfl rfl rfl (by sl_kernel_rfl),
      piece_at _ _ _ _ _ (o0 := 256) (o1 := 192) 1 3 (by decide) (by decide) 96 rfl rfl rfl (by sl_kernel_rfl),
      piece_at _ _ _ _ _ (o0 := 256) (o1 := 128) 1 2 (by decide) (by decide) 64 rfl rfl rfl (by sl_kernel_rfl),
      piece_at _ _ _ _ _ (o0 := 256) (o1 := 64) 1 1 (by decide) (by decide) 32 rfl rfl rfl (by sl_kernel_rfl),
      piece_at _ _ _ _ _ (o0 := 256) (o1 := 0) 1 0 (by decide) (by decide) 0 rfl rfl rfl (by sl_kernel_rfl),
      piece_at _ _ _ _ _ (o0 := 0) (o1 := 960) 0 15 (by decide) (by decide) 480 rfl rfl rfl (by sl_kernel_rfl),
      piece_at _ _ _ _ _ (o0 := 0) (o1 := 896) 0 14 (by decide) (by decide) 448 rfl rfl rfl (by sl_kernel_rfl),
      piece_at _ _ _ _ _ (o0 := 0) (o1 := 832) 0 13 (by decide) (by decide) 416 rfl rfl rfl (by sl_kernel_rfl),
      piece_at _ _ _ _ _ (o0 := 0) (o1 := 768) 0 12 (by decide) (by decide) 384 rfl rfl rfl (by sl_kernel_rfl),
      piece_at _ _ _ _ _ (o0 := 0) (o1 := 704) 0 11 (by decide) (by decide) 352 rfl rfl rfl (by sl_kernel_rfl),
      piece_at _ _ _ _ _ (o0 := 0) (o1 := 640) 0 10 (by decide) (by decide) 320 rfl rfl rfl (by sl_kernel_rfl),
      piece_at _ _ _ _ _ (o0 := 0) (o1 := 576) 0 9 (by decide) (by decide) 288 rfl rfl rfl (by sl_kernel_rfl),
      piece_at _ _ _ _ _ (o0 := 0) (o1 := 512) 0 8 (by decide) (by decide) 256 rfl rfl rfl (by sl_kernel_rfl),
      piece_at _ _ _ _ _ (o0 := 0) (o1 := 448) 0 7 (by decide) (by decide) 224 rfl rfl rfl (by sl_kernel_rfl),
      piece_at _ _ _ _ _ (o0 := 0) (o1 := 384) 0 6 (by decide) (by decide) 192 rfl rfl rfl (by sl_kernel_rfl),
      piece_at _ _ _ _ _ (o0 := 0) (o1 := 320) 0 5 (by decide) (by decide) 160 rfl rfl rfl (by sl_kernel_rfl),
      piece_at _ _ _ _ _ (o0 := 0) (o1 := 256) 0 4 (by decide) (by decide) 128 rfl rfl rfl (by sl_kernel_rfl),
      piece_at _ _ _ _ _ (o0 := 0) (o1 := 192) 0 3 (by decide) (by decide) 96 rfl rfl rfl (by sl_kernel_rfl),
      piece_at _ _ _ _ _ (o0 := 0) (o1 := 128) 0 2 (by decide) (by decide) 64 rfl rfl rfl (by sl_kernel_rfl),
      piece_at _ _ _ _ _ (o0 := 0) (o1 := 64) 0 1 (by decide) (by decide) 32 rfl rfl rfl (by sl_kernel_rfl),
      piece_at _ _ _ _ _ (o0 := 0) (o1 := 0) 0 0 (by decide) (by decide) 0 rfl rfl rfl (by sl_kernel_rfl), trivial⟩
  rw [h901, show View.readAt (Elt F) (Memref.whole cc0_stg7_0).view (Rect.unit ![0, 0] ![1024, 1024] inb_S1024x1024_S1024x1024_0_0).toLoadRect (woIn m ρ c)
    = woIn m ρ c from Memref.readAt_unit_zero (Elt F) cc0_stg7_0 hz2 _ _]
  ihave H8 := (Entails.of_eq (congrArg (whole c cc0_stg8_0) (out_stored m ρ c g _ _))) $$ H8
  iapply Hk
  isplitl [Hc0 Hc1 Hw0 Hw1 Ha]
  · isplitl [Hc0 Hc1]
    · iexists _; iapply (c_slots c (cFull m ρ c)).2
      isplitl [Hc0] <;> iassumption
    isplitl [Hw0 Hw1]
    · iexists _; iapply (w_slots c (wFull m ρ c)).2
      isplitl [Hw0] <;> iassumption
    iexists _; iexact Ha
  isplitl [Hz0 Hz1 Hz2 Hz3 Hz4]
  · isplitl [Hz0]; · iexact Hz0
    isplitl [Hz1]; · iexact Hz1
    isplitl [Hz2]; · iexact Hz2
    isplitl [Hz3] <;> iassumption
  isplitl [HO]; · iexists _; iexact HO
  isplitr [H8]
  · isplitl [H0]; · iexact H0
    isplitl [H1]; · iexact H1
    isplitl [H2]; · iexact H2
    isplitl [H3]; · iexact H3
    isplitl [H4]; · iexact H4
    isplitl [H5]; · iexact H5
    isplitl [H6] <;> iassumption
  iexact H8

end Body

end Cert.KernelIdeal.Swap
-- ==== Proof.Run.lean ====
/-
# The run

The body's obligation to the pipeline, the launch that deals the exchange's cells and units to the sixteen devices, and the run of the
whole program.
-/
module

public import proofs.«01_k».proof.Proof.Body
public import Idealize.ShloMosaic.Lib.Pipeline.CollectiveSegs
public import proofs.«01_k».proof.Proof.Gen.KernelIdeal.Points

@[expose] public section

set_option maxRecDepth 16384

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem cfg0_N : cfg0.N = 1 := N_0
def t₀ : Fin cfg0.N := t0_0

omit [FloatOps F] in
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A buffer held at its contents, as the pipeline states it. -/
theorem stg_intro (c : Dev nD) (b : Ref sig .tc) (X : b.ty.Contents (Elt F)) : whole c b X ⊢ stg c b X := by
  iintro H; iexists X; isplitr; · (ipureintro; rfl)
  iexact H

def bodyPre (c : Dev nD) : sProp 𝕄 :=
  iprop(Φ₀ m ρ c ∗ (dats m ρ 0 c).owesAt () t₀.castSucc
    ∗ (∃ d, stg c cc0_stg0_0 ((dats m ρ 0 c).before (0 : Fin 9) t₀ d))
    ∗ (∃ d, stg c cc0_stg1_0 ((dats m ρ 0 c).before (1 : Fin 9) t₀ d))
    ∗ (∃ d, stg c cc0_stg2_0 ((dats m ρ 0 c).before (2 : Fin 9) t₀ d))
    ∗ (∃ d, stg c cc0_stg3_0 ((dats m ρ 0 c).before (3 : Fin 9) t₀ d))
    ∗ (∃ d, stg c cc0_stg4_0 ((dats m ρ 0 c).before (4 : Fin 9) t₀ d))
    ∗ (∃ d, stg c cc0_stg5_0 ((dats m ρ 0 c).before (5 : Fin 9) t₀ d))
    ∗ (∃ d, stg c cc0_stg6_0 ((dats m ρ 0 c).before (6 : Fin 9) t₀ d))
    ∗ (∃ d, stg c cc0_stg7_0 ((dats m ρ 0 c).before (7 : Fin 9) t₀ d))
    ∗ (∃ d, stg c cc0_stg8_0 ((dats m ρ 0 c).before (8 : Fin 9) t₀ d)))
def bodyPost (c : Dev nD) : sProp 𝕄 :=
  iprop(Φ₁ c ∗ (dats m ρ 0 c).owesAt () t₀.succ
    ∗ stg c cc0_stg0_0 (xIn m ρ c)
    ∗ stg c cc0_stg1_0 (wdkvIn m ρ c)
    ∗ stg c cc0_stg2_0 (wukIn m ρ c)
    ∗ stg c cc0_stg3_0 (wuvIn m ρ c)
    ∗ stg c cc0_stg4_0 (wqIn m ρ c)
    ∗ stg c cc0_stg5_0 (wqrIn m ρ c)
    ∗ stg c cc0_stg6_0 (wkrIn m ρ c)
    ∗ stg c cc0_stg7_0 (woIn m ρ c)
    ∗ stg c cc0_stg8_0 (outAt m ρ c))

set_option maxRecDepth 4000 in
set_option maxHeartbeats 800000 in
/-- The body meets its obligation to the pipeline. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_stg8_0) (Memref.isWhole_whole _) (Memref.whole cc0_scratch0) (Memref.isWhole_whole _)
            (Memref.whole cc0_scratch1) (Memref.isWhole_whole _) (Memref.whole cc0_scratch2) (Memref.isWhole_whole _) cc0_scratch3 cc0_scratch4) (fun _ => bodyPost m ρ c)
  unfold bodyPre Φ₀ start Dat.owesAt Pipeline.owesWithin
  iintro ⟨⟨⟨⟨%K, Hg⟩, Hcr, Hlev⟩, Hscr⟩, ⟨%W, %hW, HO⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩⟩
  have hx0 : g0 = xIn m ρ c := by rw [hg0]; unfold Dat.before; rw [if_pos (fetch0_0 t₀)]; rfl
  have hx1 : g1 = wdkvIn m ρ c := by rw [hg1]; unfold Dat.before; rw [if_pos (fetch0_1 t₀)]; rfl
  have hx2 : g2 = wukIn m ρ c := by rw [hg2]; unfold Dat.before; rw [if_pos (fetch0_2 t₀)]; rfl
  have hx3 : g3 = wuvIn m ρ c := by rw [hg3]; unfold Dat.before; rw [if_pos (fetch0_3 t₀)]; rfl
  have hx4 : g4 = wqIn m ρ c := by rw [hg4]; unfold Dat.before; rw [if_pos (fetch0_4 t₀)]; rfl
  have hx5 : g5 = wqrIn m ρ c := by rw [hg5]; unfold Dat.before; rw [if_pos (fetch0_5 t₀)]; rfl
  have hx6 : g6 = wkrIn m ρ c := by rw [hg6]; unfold Dat.before; rw [if_pos (fetch0_6 t₀)]; rfl
  have hx7 : g7 = woIn m ρ c := by rw [hg7]; unfold Dat.before; rw [if_pos (fetch0_7 t₀)]; rfl
  subst hx0 hx1 hx2 hx3 hx4 hx5 hx6 hx7
  rw [show (dats m ρ 0 c).owed t₀.castSucc = O₀ c from rfl]
  iapply (sound_body m ρ K c W fun _ => bodyPost m ρ c)
  isplitl [Hg Hcr Hlev Hscr]
  · isplitl [Hg]; · iexact Hg
    isplitl [Hcr]; · iexact Hcr
    isplitl [Hlev] <;> iassumption
  isplitl [HO]; · iexact HO
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitl [H8]; · iexists g8; iexact H8
  iintro ⟨Hs, Hz, ⟨%W', HO⟩, ⟨H0, H1, H2, H3, H4, H5, H6, H7⟩, H8⟩
  unfold bodyPost Φ₁ Dat.owesAt Pipeline.owesWithin
  rw [show (dats m ρ 0 c).owed t₀.succ = 0 from rfl]
  isplitl [Hs Hz]
  · isplitl [Hs] <;> iassumption
  isplitl [HO]
  · iexists W'; isplitr
    · ipureintro; exact fun _ _ => Or.inl trivial
    iexact HO
  isplitl [H0]; · iapply (stg_intro c cc0_stg0_0 _); iexact H0
  isplitl [H1]; · iapply (stg_intro c cc0_stg1_0 _); iexact H1
  isplitl [H2]; · iapply (stg_intro c cc0_stg2_0 _); iexact H2
  isplitl [H3]; · iapply (stg_intro c cc0_stg3_0 _); iexact H3
  isplitl [H4]; · iapply (stg_intro c cc0_stg4_0 _); iexact H4
  isplitl [H5]; · iapply (stg_intro c cc0_stg5_0 _); iexact H5
  isplitl [H6]; · iapply (stg_intro c cc0_stg6_0 _); iexact H6
  isplitl [H7]; · iapply (stg_intro c cc0_stg7_0 _); iexact H7
  iapply (stg_intro c cc0_stg8_0 _); iexact H8

/-! ## The launch -/

theorem ownSemFacts : Pipeline.OwnSemFacts cfg0.spec osem := by decide
theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- All the exchange's cells, and their duties' tokens. -/
def allCells : Finset (GSem nD τ sig) := Finset.univ.map ⟨kcell, kcell_injective⟩
def allToks : Finset (GSem nD τ sig × ℕ × Unit) :=
  Finset.univ.map ⟨fun ck : Dev nD × Fin 5 => (kcell ck, 0, ()), fun _ _ h => kcell_injective (congrArg Prod.fst h)⟩

def u₀ : UU := (initOf (Pipeline.cells cfgs cellOf_inj) (Pipeline.launchToks cfgs cellOf_inj), initOf allCells allToks)

/-- The tokens of a device's own five cells. -/
def toks (c : Dev nD) : sProp 𝕄 :=
  iprop(dutyTok ER (barCell c) 0 () ∗ dutyTok ER (sendWCell c) 0 () ∗ dutyTok ER (sendCCell c) 0 () ∗ dutyTok ER (recvWCell c) 0 ()
    ∗ dutyTok ER (recvCCell c) 0 ())

/-- What the launch gives a device: its cells' states, positions and tokens; -/
def G (c : Dev nD) : sProp 𝕄 :=
  iprop((bigSep Finset.univ fun k : Fin 5 => roundState ER (Rd m ρ) (kcell (c, k)) 0)
    ∗ (bigSep Finset.univ fun k : Fin 5 => iprop(atPos ER (kcell (c, k)) 0 ∅ 0 ∗ reached ER (kcell (c, k)) 0)) ∗ toks c)
/-- and what it holds once they are dealt. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Fin 5 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_fin5]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (sendWCell c) 0 ∗ semVal (sendCCell c) 0 ∗ semVal (recvWCell c) 0 ∗ semVal (recvCCell c) 0) := by
  rw [Pipeline.ownSems0_eq_of_list c osem [0, 1, 2, 3] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_intro (F := F) c) $$ [Hos Hus]
  · isplitl [Hos] <;> iassumption
  imod (show iprop((bigSep Finset.univ fun k : Fin 5 => semVal (kcell (c, k)) 0) ∗ bigSep Finset.univ fun k : Fin 5 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What every device may copy: all the cells' records, and that each is open. -/
def records (K : Dev nD × Fin 5 → ℕ) : sProp 𝕄 :=
  iprop((bigSep Finset.univ fun ck : Dev nD × Fin 5 => cellInv ER (Rd m ρ) (K ck) (kcell ck))
    ∗ bigSep Finset.univ fun ck : Dev nD × Fin 5 => reached ER (kcell ck) 0)
instance records_persistent (K : Dev nD × Fin 5 → ℕ) : BI.Persistent (records m ρ K) := by unfold records; infer_instance

theorem inv_at (K : Dev nD × Fin 5 → ℕ) (ck : Dev nD × Fin 5) :
    (bigSep Finset.univ fun ck : Dev nD × Fin 5 => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

def linear (c : Dev nD) : sProp 𝕄 := iprop(atCells c ∗ payToks c)

theorem ghost_intro (K : Dev nD × Fin 5 → ℕ) (c : Dev nD) : iprop(records m ρ K ∗ linear c) ⊢ G' m ρ c := by
  unfold records linear G' ghost invs opened
  iintro ⟨⟨#HI, #HR⟩, Ha, Ht⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitr
  · isplitr; · iapply (reached_at (F := F) (peer c, 0)); iexact HR
    isplitr; · iapply (reached_at (F := F) (c, 1)); iexact HR
    isplitr; · iapply (reached_at (F := F) (c, 2)); iexact HR
    isplitr; · iapply (reached_at (F := F) (peer c, 3)); iexact HR
    iapply (reached_at (F := F) (peer c, 4)); iexact HR
  isplitl [Ha] <;> iassumption

omit [FloatOps F] in
/-- The barrier's and the two receives' tokens, swapped between mates. -/
theorem toks_around : (bigSep Finset.univ fun c : Dev nD => (toks c : sProp 𝕄)) ⊢ bigSep Finset.univ fun c : Dev nD => payToks c := by
  unfold toks payToks
  simp only [bigSep_sep']
  rw [bigSep_univ_equiv swap (fun c : Dev nD => (dutyTok ER (barCell c) 0 () : sProp 𝕄)),
    bigSep_univ_equiv swap (fun c : Dev nD => (dutyTok ER (recvWCell c) 0 () : sProp 𝕄)),
    bigSep_univ_equiv swap (fun c : Dev nD => (dutyTok ER (recvCCell c) 0 () : sProp 𝕄))]
  exact Entails.refl

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (Rd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear atCells; rw [bigSep_fin5])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The units the devices owe each other -/

theorem cell_eq_iff {a b : Dev nD} {sm : SemLoc sig} : Iff ((((a : Thread nD τ), sm) : GSem nD τ sig) = ((b : Thread nD τ), sm)) (a = b) :=
  ⟨fun h => Fin.ext (congrArg (fun g : GSem nD τ sig => g.1.1.val) h), fun h => h ▸ rfl⟩
theorem eq_peer_iff {d c : Dev nD} : Iff (peer d = c) (d = peer c) :=
  ⟨fun h => by rw [← h, peer_peer], fun h => by rw [h, peer_peer]⟩

/-- A tally at the mate's cell, read at a cell of the same kind. -/
theorem tally_mate (d c : Dev nD) (sm : SemLoc sig) (n : ℕ) :
    (tallyAt (((peer d : Dev nD) : Thread nD τ), sm) () n : CellTallies nD τ sig Unit) ((c : Thread nD τ), sm) () = if d = peer c then n else 0 := by
  rw [tallyAt_apply]
  by_cases h : d = peer c
  · subst h; rw [peer_peer, if_pos ⟨rfl, rfl⟩, if_pos rfl]
  · rw [if_neg (fun ⟨h1, _⟩ => h (eq_peer_iff.mp (cell_eq_iff.mp h1).symm)), if_neg h]
/-- A tally at a cell of another kind. -/
theorem tally_other (d c : Dev nD) (sm sm' : SemLoc sig) (h : sm' ≠ sm) (n : ℕ) :
    (tallyAt ((d : Thread nD τ), sm) () n : CellTallies nD τ sig Unit) ((c : Thread nD τ), sm') () = 0 := by
  rw [tallyAt_ne_cell (fun e => h (congrArg Prod.snd e))]; rfl

theorem owed_bar (d c : Dev nD) : O₀ d (barCell c) () = if d = peer c then 1 else 0 := by
  unfold O₀ O₁ O₂
  rw [Pi.add_apply, Finsupp.add_apply, Pi.add_apply, Finsupp.add_apply, tally_other _ _ _ _ (dma_ne_bar _).symm, tally_other _ _ _ _ (dma_ne_bar _).symm,
    tally_mate]; simp only [Nat.zero_add]
theorem owed_recvW (d c : Dev nD) : O₀ d (recvWCell c) () = if d = peer c then NW else 0 := by
  unfold O₀ O₁ O₂
  rw [Pi.add_apply, Finsupp.add_apply, Pi.add_apply, Finsupp.add_apply, tally_other _ _ _ _ recvC_ne_recvW.symm, tally_other _ _ _ _ (dma_ne_bar _),
    tally_mate, Nat.zero_add, Nat.add_zero]
theorem owed_recvC (d c : Dev nD) : O₀ d (recvCCell c) () = if d = peer c then NC else 0 := by
  unfold O₀ O₁ O₂
  rw [Pi.add_apply, Finsupp.add_apply, Pi.add_apply, Finsupp.add_apply, tally_other _ _ _ _ recvC_ne_recvW, tally_other _ _ _ _ (dma_ne_bar _),
    tally_mate]; simp only [Nat.add_zero]

/-- A cell that every device but its mate leaves alone gets the mate's units. -/
theorem launch_mate (c : Dev nD) (sm : SemLoc sig) (n : ℕ) (h : ∀ d, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

omit [FloatOps F] in
theorem creds (c : Dev nD) : (Pipeline.launchCred O₀ c : sProp 𝕄) ⊢ credits c := by
  unfold Pipeline.launchCred credits
  rw [bigSep_univ_at _ (SemLoc.reg barS), launch_mate c (.reg barS) 1 fun d => owed_bar d c]
  refine sep_mono_right ?_
  rw [bigSep_erase (Finset.mem_erase.mpr ⟨dma_ne_bar recvW, Finset.mem_univ _⟩), launch_mate c (.dma recvW) NW fun d => owed_recvW d c]
  refine sep_mono_right ?_
  rw [← launch_mate c (.dma recvC) NC fun d => owed_recvC d c]
  exact bigSep_elim (Finset.mem_erase.mpr ⟨recvC_ne_recvW, Finset.mem_erase.mpr ⟨dma_ne_bar _, Finset.mem_univ _⟩⟩)

/-! ### The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closed scratch
  iintro ⟨Hr, HzB, Hz⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What each window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8192 in
/-- The program on the sixteen devices: from any memory with zero counters, every weakly fair execution ends, with each device's arrays
    as computed and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Swap
-- ==== Proof.Head.lean ====
/-
# Multi-head latent attention on the extended reals

One attention head over one batch row, and the whole result by coordinates: what both programs compute.
-/
module

public import Idealize.ShloMosaic.Lib.Pointwise

@[expose] public section

noncomputable section

namespace Cert.Attention

open Idealize.ShloMosaic

/-- A matrix by its two coordinates, -/
abbrev mat {a b : ℕ} (w : (⟨2, ![a, b]⟩ : Shape).Idx → EReal) (i : Fin a) (j : Fin b) : EReal := w (ix2 i j)
/-- and a rank-3 array by its three. -/
abbrev cube {a b c : ℕ} (w : (⟨3, ![a, b, c]⟩ : Shape).Idx → EReal) (i : Fin a) (j : Fin b) (k : Fin c) : EReal := w (ix3 i j k)

/-! ## One head -/

section OneHead

variable (q k v : Fin 256 → Fin 64 → EReal) (qr kr : Fin 256 → Fin 32 → EReal)

/-- The scaled score of row `i` against row `t`: the plain part and the rotary part. -/
def score (i t : Fin 256) : EReal := (∑ d, q i d * k t d + ∑ d, qr i d * kr t d) * Ideal.ofBits .f32 0x3DD105EC#32

/-- Its exponential, less the row's maximum; -/
def expOf (s : Fin 256 → Fin 256 → EReal) (i t : Fin 256) : EReal :=
  Ideal.exp (s i t - Finset.univ.fold max (Ideal.ofBits .f32 0xFF800000#32) (fun u => s i u))
/-- and its share of the row. -/
def shareOf (e : Fin 256 → Fin 256 → EReal) (i t : Fin 256) : EReal := Ideal.div (e i t) (∑ u, e i u)

/-- The head: the values weighted by the shares. -/
def head (i : Fin 256) (d : Fin 64) : EReal := ∑ t, shareOf (expOf (score q k qr kr)) i t * v t d

end OneHead

/-! ## The whole result -/

/-- Column `d` of head `h` among the heads' columns, and among the rotary queries'. -/
def col (h : Fin 16) (d : Fin 64) : Fin 1024 := ⟨64 * h.val + d.val, by omega⟩
def rot (h : Fin 16) (d : Fin 32) : Fin 512 := ⟨32 * h.val + d.val, by omega⟩
/-- The head a column belongs to, and its place there. -/
def headAt (e : Fin 1024) : Fin 16 := ⟨e.val / 64, by omega⟩
def placeAt (e : Fin 1024) : Fin 64 := ⟨e.val % 64, by omega⟩

section Whole

variable (x : Fin 2 → Fin 256 → Fin 1024 → EReal) (wd : Fin 1024 → Fin 128 → EReal) (uk uv : Fin 128 → Fin 1024 → EReal)
  (wq : Fin 1024 → Fin 1024 → EReal) (wr : Fin 1024 → Fin 512 → EReal) (wk : Fin 1024 → Fin 32 → EReal) (wo : Fin 1024 → Fin 1024 → EReal)

/-- A projection of the activations. -/
def proj {n : ℕ} (w : Fin 1024 → Fin n → EReal) (b : Fin 2) (s : Fin 256) (j : Fin n) : EReal := ∑ k, x b s k * w k j
/-- Keys or values: the 128 compressed activations, projected up. -/
def lifted (u : Fin 128 → Fin 1024 → EReal) (b : Fin 2) (s : Fin 256) (e : Fin 1024) : EReal := ∑ j, proj x wd b s j * u j e

/-- The attention at batch row `b`, row `s`, column `e`. -/
def attention (b : Fin 2) (s : Fin 256) (e : Fin 1024) : EReal :=
  head (fun i d => proj x wq b i (col (headAt e) d)) (fun i d => lifted x wd uk b i (col (headAt e) d))
    (fun i d => lifted x wd uv b i (col (headAt e) d)) (fun i d => proj x wr b i (rot (headAt e) d)) (fun i d => proj x wk b i d) s (placeAt e)

/-- The result: the attention through the output weights. -/
def result (b : Fin 2) (s : Fin 256) (e : Fin 1024) : EReal := ∑ k, attention x wd uk uv wq wr wk b s k * wo k e

end Whole

/-- A sum over the 128 compressed columns is one over a device's 64 and one over its mate's, whichever half is the device's. -/
theorem sum_halves (p : ℕ) (hp : p < 2) (f : Fin 128 → EReal) :
    (∑ j : Fin 64, f ⟨64 * p + j.val, by omega⟩) + ∑ j : Fin 64, f ⟨64 * (1 - p) + j.val, by omega⟩ = ∑ j, f j := by
  rw [Fin.sum_univ_two_halves 64 64 rfl f]
  obtain rfl | rfl : p = 0 ∨ p = 1 := by omega
  · congr 1 <;> exact Finset.sum_congr rfl fun j _ => congrArg f (Fin.ext (by simp))
  · rw [add_comm]
    congr 1 <;> exact Finset.sum_congr rfl fun j _ => congrArg f (Fin.ext (by simp))

end Cert.Attention
-- ==== Proof.Values.lean ====
/-
# What one device computes, by coordinates

Every value of `Data` read at an element, with ideal floats: a device's result is the attention of `Head` over its own blocks
of the three split weights and its mate's.
-/
module

public import proofs.«01_k».proof.Proof.Data
public import proofs.«01_k».proof.Proof.Head
public import Idealize.ShloMosaic.Lib.Pointwise

@[expose] public section

set_option maxRecDepth 16384

noncomputable section

namespace Cert.KernelIdeal.Swap

open Cert.KernelIdeal Cert.KernelIdeal.Gen Cert.Attention
open Idealize.ShloMosaic

/-- Row `s` of batch row `b` among the 512 rows. -/
def row (b : Fin 2) (s : Fin 256) : Fin 512 := ⟨256 * b.val + s.val, by omega⟩
theorem row_div (b : Fin 2) (s : Fin 256) : (row b s).val / 256 = b.val := by unfold row; dsimp only; omega
theorem row_mod (b : Fin 2) (s : Fin 256) : (row b s).val % 256 = s.val := by unfold row; dsimp only; omega

/-! ## One head -/

theorem headScores_at (q k qr kr) (i t : Fin 256) : headScores (F := Ideal) q k qr kr (ix2 i t) = score (mat q) (mat k) (mat qr) (mat kr) i t := by
  pointwise [headScores]
  rfl
theorem headExp_at (s) (i t : Fin 256) : headExp (F := Ideal) s (ix2 i t) = expOf (mat s) i t := by
  pointwise [headExp]
  rfl
theorem headProbs_at (e) (i t : Fin 256) : headProbs (F := Ideal) e (ix2 i t) = shareOf (mat e) i t := by
  pointwise [headProbs]
  rfl
theorem headOf_at (q k v qr kr) (i : Fin 256) (d : Fin 64) :
    headOf (F := Ideal) q k v qr kr (ix2 i d) = head (mat q) (mat k) (mat v) (mat qr) (mat kr) i d := by
  pointwise [headOf]
  have es : mat (headScores (F := Ideal) q k qr kr) = score (mat q) (mat k) (mat qr) (mat kr) := funext fun i => funext fun t => headScores_at q k qr kr i t
  have ee : mat (headExp (F := Ideal) (headScores q k qr kr)) = expOf (mat (headScores (F := Ideal) q k qr kr)) :=
    funext fun i => funext fun t => headExp_at _ i t
  refine Finset.sum_congr rfl fun t _ => congrArg (· * _) ?_
  rw [headProbs_at, ee, es]

/-- A head's tile at an element: the head of its rows and columns. -/
theorem tileOf_at (q k v qr kr) (b : Fin 2) (h : Fin 16) (s : Fin 256) (d : Fin 64) : tile (F := Ideal) q k v qr kr b.val h.val b.isLt h.isLt (ix2 s d)
    = head (fun i d => q (ix2 (row b i) (col h d))) (fun i d => k (ix2 (row b i) (col h d))) (fun i d => v (ix2 (row b i) (col h d)))
        (fun i d => qr (ix2 (row b i) (rot h d))) (fun i d => kr (ix2 (row b i) d)) s d := by
  unfold tile
  rw [headOf_at]
  congr 1 <;> funext i d <;> pointwise <;> rfl

/-- The attention buffer at an element: the head of the column's tile, over the row's batch row. -/
theorem attnOf_at (q k v qr kr) (b : Fin 2) (s : Fin 256) (e : Fin 1024) : attnOf (F := Ideal) q k v qr kr (ix2 (row b s) e)
    = head (fun i d => q (ix2 (row b i) (col (headAt e) d))) (fun i d => k (ix2 (row b i) (col (headAt e) d)))
        (fun i d => v (ix2 (row b i) (col (headAt e) d))) (fun i d => qr (ix2 (row b i) (rot (headAt e) d)))
        (fun i d => kr (ix2 (row b i) d)) s (placeAt e) := by
  refine Eq.trans ?_ (tileOf_at q k v qr kr b (headAt e) s (placeAt e))
  have h := row_div b s
  have h' : (⟨(row b s).val % 256, Nat.mod_lt _ (by decide)⟩ : Fin 256) = s := Fin.ext (row_mod b s)
  show tile q k v qr kr ((row b s).val / 256) (e.val / 64) _ _ (ValueIdx.ix2 ⟨(row b s).val % 256, _⟩ (placeAt e)) = _
  rw [h', ← ix2_eq_valueIdx]
  simp only [h]
  rfl

/-! ## The projections -/

theorem pay7_at (x) (b : Fin 2) (s : Fin 256) (k : Fin 1024) : k0_pay7 (F := Ideal) x (ix2 (row b s) k) = x (ix3 b s k) := by
  pointwise [k0_pay7]
  exact congrArg₂ (fun b s => x (ix3 b s k)) (Fin.ext (row_div b s)) (Fin.ext (row_mod b s))
theorem pay10_at (x w) (r : Fin 512) (j : Fin 1024) : k0_pay10 (F := Ideal) x w (ix2 r j) = ∑ k, x (ix2 r k) * w (ix2 k j) := by
  pointwise [k0_pay10]
theorem pay11_at (x w) (r : Fin 512) (j : Fin 512) : k0_pay11 (F := Ideal) x w (ix2 r j) = ∑ k, x (ix2 r k) * w (ix2 k j) := by
  pointwise [k0_pay11]
theorem pay12_at (x w) (r : Fin 512) (j : Fin 32) : k0_pay12 (F := Ideal) x w (ix2 r j) = ∑ k, x (ix2 r k) * w (ix2 k j) := by
  pointwise [k0_pay12]
theorem pay8_at (x w) (b : Fin 2) (s : Fin 256) (j : Fin 64) : k0_pay8 (F := Ideal) x w (ix2 (row b s) j) = proj (cube x) (mat w) b s j := by
  pointwise [k0_pay8]
  exact Finset.sum_congr rfl fun k _ => congrArg (· * _) (pay7_at x b s k)
theorem pay13_at (c w) (r : Fin 512) (e : Fin 1024) : k0_pay13 (F := Ideal) c w (ix2 r e) = ∑ j, c (ix2 r j) * w (ix2 j e) := by
  pointwise [k0_pay13]
theorem pay14_at (c w) (r : Fin 512) (e : Fin 1024) : k0_pay14 (F := Ideal) c w (ix2 r e) = ∑ j, c (ix2 r j) * w (ix2 j e) := by
  pointwise [k0_pay14]
theorem pay16_at (z c w) (r : Fin 512) (e : Fin 1024) :
    k0_pay16 (F := Ideal) z c w (ix2 r e) = z (ix2 r e) + ∑ j, c (ix3 0 r j) * w (ix3 0 j e) := by
  pointwise [k0_pay16, k0_pay15]
theorem pay17_at (z c w) (r : Fin 512) (e : Fin 1024) :
    k0_pay17 (F := Ideal) z c w (ix2 r e) = z (ix2 r e) + ∑ j, c (ix3 0 r j) * w (ix3 0 j e) := by
  pointwise [k0_pay17, k0_pay15]
theorem pay2_at (a w) (r : Fin 512) (e : Fin 1024) : k0_pay2 (F := Ideal) a w (ix2 r e) = ∑ k, a (ix2 r k) * w (ix2 k e) := by
  pointwise [k0_pay2]

/-! ## A device's values -/

variable (m : (ℓ : Loc nD τ sig) → Buf (Elt Ideal) ℓ) (ρ : Dev nD → PrngReg) (c : Dev nD)

theorem qAll_at (b s j) : qAll m ρ c (ix2 (row b s) j) = proj (cube (xIn m ρ c)) (mat (wqIn m ρ c)) b s j := by
  unfold qAll xRows
  rw [pay10_at]
  exact Finset.sum_congr rfl fun k _ => congrArg (· * _) (pay7_at _ b s k)
theorem qrAll_at (b s j) : qrAll m ρ c (ix2 (row b s) j) = proj (cube (xIn m ρ c)) (mat (wqrIn m ρ c)) b s j := by
  unfold qrAll xRows
  rw [pay11_at]
  exact Finset.sum_congr rfl fun k _ => congrArg (· * _) (pay7_at _ b s k)
theorem krAll_at (b s j) : krAll m ρ c (ix2 (row b s) j) = proj (cube (xIn m ρ c)) (mat (wkrIn m ρ c)) b s j := by
  unfold krAll xRows
  rw [pay12_at]
  exact Finset.sum_congr rfl fun k _ => congrArg (· * _) (pay7_at _ b s k)

/-- The keys: this device's half of the compressed columns, and its mate's. -/
theorem kAll_at (b s e) : kAll m ρ c (ix2 (row b s) e)
    = (∑ j, proj (cube (xIn m ρ c)) (mat (wdkvIn m ρ c)) b s j * wukIn m ρ c (ix2 j e))
      + ∑ j, proj (cube (xIn m ρ (peer c))) (mat (wdkvIn m ρ (peer c))) b s j * wukIn m ρ (peer c) (ix2 j e) := by
  unfold kAll
  rw [pay16_at, pay13_at]
  exact congrArg₂ (· + ·) (Finset.sum_congr rfl fun j _ => congrArg (· * _) (pay8_at _ _ b s j))
    (Finset.sum_congr rfl fun j _ => congrArg (· * _) (pay8_at _ _ b s j))
/-- The values: likewise. -/
theorem vAll_at (b s e) : vAll m ρ c (ix2 (row b s) e)
    = (∑ j, proj (cube (xIn m ρ c)) (mat (wdkvIn m ρ c)) b s j * wuvIn m ρ c (ix2 j e))
      + ∑ j, proj (cube (xIn m ρ (peer c))) (mat (wdkvIn m ρ (peer c))) b s j * wuvIn m ρ (peer c) (ix2 j e) := by
  unfold vAll
  rw [pay17_at, pay14_at]
  exact congrArg₂ (· + ·) (Finset.sum_congr rfl fun j _ => congrArg (· * _) (pay8_at _ _ b s j))
    (Finset.sum_congr rfl fun j _ => congrArg (· * _) (pay8_at _ _ b s j))

/-! ## With the split weights as blocks -/

section Blocks

variable (x : FVec Ideal S2x256x1024 .bf16) (wd : Fin 1024 → Fin 128 → EReal) (uk uv : Fin 128 → Fin 1024 → EReal)
  (wq : FVec Ideal S1024x1024 .bf16) (wr : FVec Ideal S1024x512 .bf16) (wk : FVec Ideal S1024x32 .bf16) (wo : FVec Ideal S1024x1024 .bf16)

/-- Which half of the 128 compressed columns a device has: the first coordinate of its place in the mesh. -/
def half (c : Dev nD) : ℕ := c.val / 8
theorem half_lt (c : Dev nD) : half c < 2 := by have := c.isLt; unfold half nD at *; omega
theorem half_peer (c : Dev nD) : half (peer c) = 1 - half c := by revert c; decide
def blk (c : Dev nD) (j : Fin 64) : Fin 128 := ⟨64 * half c + j.val, by have := half_lt c; omega⟩

/-- Two devices' halves of a lifted sum make the whole one. -/
theorem lifted_of_halves (u : Fin 128 → Fin 1024 → EReal) (wdB : Dev nD → Fin 1024 → Fin 64 → EReal) (uB : Dev nD → Fin 64 → Fin 1024 → EReal)
    (hd : ∀ c k j, wdB c k j = wd k (blk c j)) (hu : ∀ c j e, uB c j e = u (blk c j) e) (b s e) :
    (∑ j, proj (cube x) (wdB c) b s j * uB c j e) + ∑ j, proj (cube x) (wdB (peer c)) b s j * uB (peer c) j e = lifted (cube x) wd u b s e := by
  refine Eq.trans ?_ (sum_halves (half c) (half_lt c) fun j => proj (cube x) wd b s j * u j e)
  have hp : ∀ j : Fin 64, blk (peer c) j = ⟨64 * (1 - half c) + j.val, by omega⟩ := fun j => Fin.ext (congrArg (64 * · + j.val) (half_peer c))
  simp only [proj, hd, hu, hp]
  rfl

/-- A device's result at an element, when its arguments and its mate's are the whole's: the attention through the output weights. -/
theorem outAt_at (hx : ∀ c, xIn m ρ c = x) (hd : ∀ c k j, mat (wdkvIn m ρ c) k j = wd k (blk c j))
    (hk : ∀ c j e, mat (wukIn m ρ c) j e = uk (blk c j) e) (hv : ∀ c j e, mat (wuvIn m ρ c) j e = uv (blk c j) e)
    (hq : wqIn m ρ c = wq) (hr : wqrIn m ρ c = wr) (hkr : wkrIn m ρ c = wk) (ho : woIn m ρ c = wo) (b : Fin 2) (s : Fin 256) (e : Fin 1024) :
    outAt m ρ c (ix3 b s e) = result (cube x) wd uk uv (mat wq) (mat wr) (mat wk) (mat wo) b s e := by
  show k0_pay2 (F := Ideal) (attnAt m ρ c) (woIn m ρ c) (ValueIdx.ix2 (row b s) e) = _
  rw [← ix2_eq_valueIdx, pay2_at, ho]
  refine Finset.sum_congr rfl fun k _ => congrArg (· * _) ?_
  unfold attnAt attention
  rw [attnOf_at]
  have ek : ∀ i e, kAll m ρ c (ix2 (row b i) e) = lifted (cube x) wd uk b i e := fun i e => by
    rw [kAll_at, hx, hx]; exact lifted_of_halves c x wd uk _ _ hd hk b i e
  have ev : ∀ i e, vAll m ρ c (ix2 (row b i) e) = lifted (cube x) wd uv b i e := fun i e => by
    rw [vAll_at, hx, hx]; exact lifted_of_halves c x wd uv _ _ hd hv b i e
  simp only [ek, ev, qAll_at, qrAll_at, krAll_at, hx, hq, hr, hkr]

end Blocks

end Cert.KernelIdeal.Swap
-- ==== Proof.Reference.lean ====
/-
# The reference's result by coordinates

The reference's result, in stages, and each stage read at an element: it is the attention of `Head`.
-/
module

public import proofs.«01_k».proof.Proof.Gen.ReferenceIdeal.Run
public import proofs.«01_k».proof.Proof.Head

@[expose] public section

set_option maxRecDepth 16384

noncomputable section

namespace Cert.ReferenceIdeal.Stages

open Cert.ReferenceIdeal Cert.ReferenceIdeal.Gen Cert.ReferenceIdeal.Value Cert.Attention
open Idealize.ShloMosaic Idealize.ShloMosaic.TcCoe

/-! ## The stages -/

/-- Keys or values, by head: the compressed activations projected up. -/
def latent (x : FVec Ideal S2x256x1024 .bf16) (a : FVec Ideal S1024x128 .bf16) (u : FVec Ideal S128x1024 .bf16) : FVec Ideal S2x256x16x64 .f32 :=
  shapeCast S2x256x16x64 (Host.dotGeneral dot_S2x256x128_S128x1024_S2x256x1024_2_0_01_1_n_n none
    (Host.dotGeneral dot_S2x256x1024_S1024x128_S2x256x128_2_0_01_1_n_n none (extf .f32 x bitsLt_bf16_f32) (extf .f32 a bitsLt_bf16_f32))
    (extf .f32 u bitsLt_bf16_f32)) shapeCasts_S2x256x1024_S2x256x16x64
/-- Queries, by head; -/
def query (x : FVec Ideal S2x256x1024 .bf16) (w : FVec Ideal S1024x1024 .bf16) : FVec Ideal S2x256x16x64 .f32 :=
  shapeCast S2x256x16x64 (Host.dotGeneral dot_S2x256x1024_S1024x1024_S2x256x1024_2_0_01_1_n_n none (extf .f32 x bitsLt_bf16_f32) (extf .f32 w bitsLt_bf16_f32))
    shapeCasts_S2x256x1024_S2x256x16x64
/-- the rotary queries, by head; -/
def queryRot (x : FVec Ideal S2x256x1024 .bf16) (w : FVec Ideal S1024x512 .bf16) : FVec Ideal S2x256x16x32 .f32 :=
  shapeCast S2x256x16x32 (Host.dotGeneral dot_S2x256x1024_S1024x512_S2x256x512_2_0_01_1_n_n none (extf .f32 x bitsLt_bf16_f32) (extf .f32 w bitsLt_bf16_f32))
    shapeCasts_S2x256x512_S2x256x16x32
/-- the rotary keys, the same for every head. -/
def keyRot (x : FVec Ideal S2x256x1024 .bf16) (w : FVec Ideal S1024x32 .bf16) : FVec Ideal S2x256x16x32 .f32 :=
  broadcastInDim S2x256x16x32 ![0, 1, 2, 3] bcast_S2x256x1x32_S2x256x16x32_0_1_2_3
    (shapeCast S2x256x1x32 (Host.dotGeneral dot_S2x256x1024_S1024x32_S2x256x32_2_0_01_1_n_n none (extf .f32 x bitsLt_bf16_f32) (extf .f32 w bitsLt_bf16_f32))
      shapeCasts_S2x256x32_S2x256x1x32)
/-- The scaled scores; -/
def scores (q k : FVec Ideal S2x256x16x64 .f32) (qr kr : FVec Ideal S2x256x16x32 .f32) : FVec Ideal S2x16x256x256 .f32 :=
  mulf (addf (Host.dotGeneral dot_S2x256x16x64_S2x256x16x64_S2x16x256x256_3_3_1_1_02_02 none q k)
      (Host.dotGeneral dot_S2x256x16x32_S2x256x16x32_S2x16x256x256_3_3_1_1_02_02 none qr kr))
    (broadcastInDim S2x16x256x256 ![] bcast_S_S2x16x256x256 (constant S_ .f32 0x3DD105EC#32))
/-- their exponentials less the rows' maxima; -/
def exps (s : FVec Ideal S2x16x256x256 .f32) : FVec Ideal S2x16x256x256 .f32 :=
  Host.exp (subf s (broadcastInDim S2x16x256x256 ![0, 1, 2, 3] bcast_S2x16x256x1_S2x16x256x256_0_1_2_3
    (broadcastInDim S2x16x256x1 ![0, 1, 2] bcast_S2x16x256_S2x16x256x1_0_1_2
      (Host.reduce FloatOps.maximumf s (constant S_ .f32 0xFF800000#32) reducesTo_S2x16x256x256_S2x16x256_d3 h_S_))))
/-- and those by their rows' sums. -/
def shares (e : FVec Ideal S2x16x256x256 .f32) : FVec Ideal S2x16x256x256 .f32 :=
  Host.divf e (broadcastInDim S2x16x256x256 ![0, 1, 2, 3] bcast_S2x16x256x1_S2x16x256x256_0_1_2_3
    (broadcastInDim S2x16x256x1 ![0, 1, 2] bcast_S2x16x256_S2x16x256x1_0_1_2
      (Host.reduceAdd e (constant S_ .f32 0x00000000#32) reducesTo_S2x16x256x256_S2x16x256_d3 h_S_)))
/-- The values weighted, the heads side by side; -/
def mixed (v : FVec Ideal S2x256x16x64 .f32) (p : FVec Ideal S2x16x256x256 .f32) : FVec Ideal S2x256x1024 .f32 :=
  shapeCast S2x256x1024 (transpose S2x256x16x64 [0, 3, 1, 2] (Host.dotGeneral dot_S2x256x16x64_S2x16x256x256_S2x16x64x256_1_3_3_2_02_01 none v p)
    transposes_S2x16x64x256_S2x256x16x64_0_3_1_2) shapeCasts_S2x256x16x64_S2x256x1024
/-- through the output weights. -/
def outOf (a : FVec Ideal S2x256x1024 .f32) (w : FVec Ideal S1024x1024 .bf16) : FVec Ideal S2x256x1024 .f32 :=
  Host.dotGeneral dot_S2x256x1024_S1024x1024_S2x256x1024_2_0_01_1_n_n none a (extf .f32 w bitsLt_bf16_f32)

/-- The whole of the reference, of its eight arguments. -/
def whole (x : FVec Ideal S2x256x1024 .bf16) (wd : FVec Ideal S1024x128 .bf16) (uk uv : FVec Ideal S128x1024 .bf16) (wq : FVec Ideal S1024x1024 .bf16)
    (wr : FVec Ideal S1024x512 .bf16) (wk : FVec Ideal S1024x32 .bf16) (wo : FVec Ideal S1024x1024 .bf16) : FVec Ideal S2x256x1024 .f32 :=
  outOf (mixed (latent x wd uv) (shares (exps (scores (query x wq) (latent x wd uk) (queryRot x wr) (keyRot x wk))))) wo

/-- The reference's result is these stages. -/
theorem res_eq (m : (ℓ : Loc nD τ sig) → Buf (Elt Ideal) ℓ) (c : Dev nD) :
    res_main_v37 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

/-! ## The stages at an element -/

section At

variable (x : FVec Ideal S2x256x1024 .bf16) (wd : FVec Ideal S1024x128 .bf16) (u : FVec Ideal S128x1024 .bf16) (b : Fin 2) (s t : Fin 256) (h : Fin 16)

theorem latent_at (d : Fin 64) : latent x wd u (ix4 b s h d) = lifted (cube x) (mat wd) (mat u) b s (col h d) := by
  pointwise [latent]
  unfold lifted proj col
  exact Finset.sum_congr rfl fun j _ => congrArg (fun e => _ * u (ix2 j e)) (Fin.ext (congrArg (· + d.val) (Nat.mul_comm _ _)))
theorem query_at (w) (d : Fin 64) : query x w (ix4 b s h d) = proj (cube x) (mat w) b s (col h d) := by
  pointwise [query]
  unfold proj col
  exact Finset.sum_congr rfl fun j _ => congrArg (fun e => _ * w (ix2 j e)) (Fin.ext (congrArg (· + d.val) (Nat.mul_comm _ _)))
theorem queryRot_at (w) (d : Fin 32) : queryRot x w (ix4 b s h d) = proj (cube x) (mat w) b s (rot h d) := by
  pointwise [queryRot]
  unfold proj rot
  exact Finset.sum_congr rfl fun j _ => congrArg (fun e => _ * w (ix2 j e)) (Fin.ext (congrArg (· + d.val) (Nat.mul_comm _ _)))
theorem keyRot_at (w) (d : Fin 32) : keyRot x w (ix4 b s h d) = proj (cube x) (mat w) b s d := by
  pointwise [keyRot]
  rfl
theorem scores_at (q k qr kr) : scores q k qr kr (ix4 b h s t)
    = score (fun i d => q (ix4 b i h d)) (fun i d => k (ix4 b i h d)) (fun i d => qr (ix4 b i h d)) (fun i d => kr (ix4 b i h d)) s t := by
  pointwise [scores]
  rfl
theorem exps_at (z) : exps z (ix4 b h s t) = expOf (fun i u => z (ix4 b h i u)) s t := by
  pointwise [exps]
  rfl
theorem shares_at (z) : shares z (ix4 b h s t) = shareOf (fun i u => z (ix4 b h i u)) s t := by
  pointwise [shares]
  rfl
theorem mixed_at (v p) (e : Fin 1024) : mixed v p (ix3 b s e) = ∑ t, p (ix4 b (headAt e) s t) * v (ix4 b t (headAt e) (placeAt e)) := by
  pointwise [mixed]
  exact Finset.sum_congr rfl fun t _ => mul_comm _ _
theorem outOf_at (a w) (e : Fin 1024) : outOf a w (ix3 b s e) = ∑ k, cube a b s k * mat w k e := by
  pointwise [outOf]

/-- The reference at an element is the attention through the output weights. -/
theorem whole_at (uk uv wq wr wk wo) (e : Fin 1024) : whole x wd uk uv wq wr wk wo (ix3 b s e)
    = result (cube x) (mat wd) (mat uk) (mat uv) (mat wq) (mat wr) (mat wk) (mat wo) b s e := by
  unfold whole result
  rw [outOf_at]
  refine Finset.sum_congr rfl fun k _ => congrArg (· * _) ?_
  show mixed _ _ (ix3 b s k) = _
  rw [mixed_at]
  unfold attention head
  simp only [shares_at, exps_at, scores_at, latent_at, query_at, queryRot_at, keyRot_at]

end At

end Cert.ReferenceIdeal.Stages
-- ==== Proof.Result.lean ====
/-
# The result of the run

What the launch leaves in the result array of each device, against the reference's result.
-/
module

public import proofs.«01_k».proof.Proof.Run
public import proofs.«01_k».proof.Proof.Values
public import proofs.«01_k».proof.Proof.Reference
public import Idealize.ShloMosaic.Lib.Pipeline.ValueKit
public import Idealize.ShloMosaic.Lib.Layout

@[expose] public section

set_option maxRecDepth 16384

noncomputable section

namespace Cert.KernelIdeal.Swap

open Cert.KernelIdeal Cert.KernelIdeal.Gen
open Idealize.ShloMosaic Idealize.ShloMosaic.TcCoe Idealize.SL.Sem

section Arrays

variable {F : FTy → Type} [FloatOps F] (m : (ℓ : Loc nD τ sig) → Buf (Elt F) ℓ) (ρ : Dev nD → PrngReg) (c : Dev nD)

/-- The launch leaves an input's array as it was. -/
theorem final_in (w : Fin cfg0.W) (h : (cfg0.win w).isOut = false) :
    finalA m ρ c w = (s₀ m ρ).mem ((cfg0.win w).arr.view.loc (c : Thread nD τ)) := (dats m ρ 0 c).arrAt_in w h _

/-- It leaves what the body computed in the result's. -/
theorem final_out : finalA m ρ c 8 = outAt m ρ c := by
  refine (dats m ρ 0 c).arrAt_eq_of_after_last 8 t0_0 (by decide +kernel) _ fun j => ?_
  blk_simp
  rfl

end Arrays

section Inputs

variable (m : (ℓ : Loc nD τ sig) → Buf (Elt Ideal) ℓ) (ρ : Dev nD → PrngReg) (c : Dev nD)

/-- A window of a whole array reads the array. -/
theorem read_window (w : Pipeline.Window sig grid0) (f : w.arr.view.ty.Contents (Elt Ideal)) (j : w.shape.Idx)
    (h : ∀ a, w.index (0 : Fin 1) a = 0) (i : (w.xblock (grid0.coords (0 : Fin 1))).Idx) (hi : ∀ a, (i a : ℕ) = j a) :
    f ((w.blk (0 : Fin 1)).view.emb i) = f (w.arr.view.emb j) :=
  congrArg (fun k => f (w.arr.view.emb k)) (funext fun a => Fin.ext ((w.rect_emb_val_of_index_zero (0 : Fin 1) a (h a) i).trans (hi a)))

/-- So each staged input is the device's argument. -/
theorem xIn_eq : xIn m ρ c = m ((c : Thread nD τ).loc main_arg0) := funext fun j => read_window win0_0 (m ((c : Thread nD τ).loc main_arg0)) j (fun _ => rfl) j fun _ => rfl
theorem wdkvIn_eq : wdkvIn m ρ c = m ((c : Thread nD τ).loc main_arg1) := funext fun j => read_window win0_1 (m ((c : Thread nD τ).loc main_arg1)) j (fun _ => rfl) j fun _ => rfl
theorem wukIn_eq : wukIn m ρ c = m ((c : Thread nD τ).loc main_arg2) := funext fun j => read_window win0_2 (m ((c : Thread nD τ).loc main_arg2)) j (fun _ => rfl) j fun _ => rfl
theorem wuvIn_eq : wuvIn m ρ c = m ((c : Thread nD τ).loc main_arg3) := funext fun j => read_window win0_3 (m ((c : Thread nD τ).loc main_arg3)) j (fun _ => rfl) j fun _ => rfl
theorem wqIn_eq : wqIn m ρ c = m ((c : Thread nD τ).loc main_arg4) := funext fun j => read_window win0_4 (m ((c : Thread nD τ).loc main_arg4)) j (fun _ => rfl) j fun _ => rfl
theorem wqrIn_eq : wqrIn m ρ c = m ((c : Thread nD τ).loc main_arg5) := funext fun j => read_window win0_5 (m ((c : Thread nD τ).loc main_arg5)) j (fun _ => rfl) j fun _ => rfl
theorem wkrIn_eq : wkrIn m ρ c = m ((c : Thread nD τ).loc main_arg6) := funext fun j => read_window win0_6 (m ((c : Thread nD τ).loc main_arg6)) j (fun _ => rfl) j fun _ => rfl
theorem woIn_eq : woIn m ρ c = m ((c : Thread nD τ).loc main_arg7) := funext fun j => read_window win0_7 (m ((c : Thread nD τ).loc main_arg7)) j (fun _ => rfl) j fun _ => rfl

end Inputs

section Blocks

/-- The block a device has of an array cut along the first axis of the mesh is its half. -/
theorem block_half : ∀ c : Dev nD, Layout.meshLin [2, 2, 4] c.val [0] = half c := by decide

theorem block_cols (c : Dev nD) (v : (⟨2, ![1024, 128]⟩ : Shape).Idx → EReal) (k : Fin 1024) (j : Fin 64) :
    (Layout.blockN ⟨2, ![1024, 64]⟩ ⟨2, ![1024, 128]⟩ (Layout.meshBlock [2, 2, 4] ![[], [0]] c) v) (ix2 k j) = v (ix2 k (blk c j)) := by
  rw [Layout.blockN_apply]
  refine congrArg v (funext fun b => Fin.ext ?_)
  rw [Layout.TilesN.idx_val]
  match b with
  | ⟨0, _⟩ => exact (congrArg (· + k.val) (Nat.zero_mul _)).trans (Nat.zero_add _)
  | ⟨1, _⟩ => exact congrArg (· + j.val) ((Nat.mul_comm _ 64).trans (congrArg (64 * ·) (block_half c)))

theorem block_rows (c : Dev nD) (v : (⟨2, ![128, 1024]⟩ : Shape).Idx → EReal) (j : Fin 64) (e : Fin 1024) :
    (Layout.blockN ⟨2, ![64, 1024]⟩ ⟨2, ![128, 1024]⟩ (Layout.meshBlock [2, 2, 4] ![[0], []] c) v) (ix2 j e) = v (ix2 (blk c j) e) := by
  rw [Layout.blockN_apply]
  refine congrArg v (funext fun b => Fin.ext ?_)
  rw [Layout.TilesN.idx_val]
  match b with
  | ⟨0, _⟩ => exact congrArg (· + j.val) ((Nat.mul_comm _ 64).trans (congrArg (64 * ·) (block_half c)))
  | ⟨1, _⟩ => exact (congrArg (· + e.val) (Nat.zero_mul _)).trans (Nat.zero_add _)

end Blocks

section Whole

variable (m : (ℓ : Loc nD τ sig) → Buf (Elt Ideal) ℓ) (ρ : Dev nD → PrngReg)
  (x : FVec Ideal S2x256x1024 .bf16) (wd : FVec Ideal ⟨2, ![1024, 128]⟩ .bf16) (uk uv : FVec Ideal ⟨2, ![128, 1024]⟩ .bf16)
  (wq : FVec Ideal S1024x1024 .bf16) (wr : FVec Ideal S1024x512 .bf16) (wk : FVec Ideal S1024x32 .bf16) (wo : FVec Ideal S1024x1024 .bf16)

/-- What a device leaves is the reference's result of the whole arrays, when every device's arguments are its parts of them. -/
theorem outAt_eq (h0 : ∀ c : Dev nD, m ((c : Thread nD τ).loc main_arg0) = x)
    (h1 : ∀ c : Dev nD, m ((c : Thread nD τ).loc main_arg1) = Layout.blockN ⟨2, ![1024, 64]⟩ ⟨2, ![1024, 128]⟩ (Layout.meshBlock [2, 2, 4] ![[], [0]] c) wd)
    (h2 : ∀ c : Dev nD, m ((c : Thread nD τ).loc main_arg2) = Layout.blockN ⟨2, ![64, 1024]⟩ ⟨2, ![128, 1024]⟩ (Layout.meshBlock [2, 2, 4] ![[0], []] c) uk)
    (h3 : ∀ c : Dev nD, m ((c : Thread nD τ).loc main_arg3) = Layout.blockN ⟨2, ![64, 1024]⟩ ⟨2, ![128, 1024]⟩ (Layout.meshBlock [2, 2, 4] ![[0], []] c) uv)
    (c : Dev nD) (h4 : m ((c : Thread nD τ).loc main_arg4) = wq) (h5 : m ((c : Thread nD τ).loc main_arg5) = wr)
    (h6 : m ((c : Thread nD τ).loc main_arg6) = wk) (h7 : m ((c : Thread nD τ).loc main_arg7) = wo) :
    outAt m ρ c = Cert.ReferenceIdeal.Stages.whole x wd uk uv wq wr wk wo := by
  have key : ∀ (b : Fin 2) (s : Fin 256) (e : Fin 1024), outAt m ρ c (ix3 b s e) = Cert.ReferenceIdeal.Stages.whole x wd uk uv wq wr wk wo (ix3 b s e) := by
    intro b s e
    exact (outAt_at m ρ c x (Cert.Attention.mat wd) (Cert.Attention.mat uk) (Cert.Attention.mat uv) wq wr wk wo
      (fun c => (xIn_eq m ρ c).trans (h0 c))
      (fun c k j => (congrFun ((wdkvIn_eq m ρ c).trans (h1 c)) (ix2 k j)).trans (block_cols c wd k j))
      (fun c j e => (congrFun ((wukIn_eq m ρ c).trans (h2 c)) (ix2 j e)).trans (block_rows c uk j e))
      (fun c j e => (congrFun ((wuvIn_eq m ρ c).trans (h3 c)) (ix2 j e)).trans (block_rows c uv j e))
      ((wqIn_eq m ρ c).trans h4) ((wqrIn_eq m ρ c).trans h5) ((wkrIn_eq m ρ c).trans h6) ((woIn_eq m ρ c).trans h7) b s e).trans
      (Cert.ReferenceIdeal.Stages.whole_at x wd b s uk uv wq wr wk wo e).symm
  refine funext fun (j : S2x256x1024.Idx) => ?_
  idx_vars j
  exact key _ _ _

end Whole

end Cert.KernelIdeal.Swap
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Lib.Tactic
public import Idealize.ShloMosaic.Init

@[expose] public section

noncomputable section

namespace Cert.Proof

open Idealize.ShloMosaic Idealize.SL.Sem Cert.Kernel

open Cert.KernelIdeal.Swap (s₀ QC finalA run_main final_in final_out outAt outAt_eq)

/-- The arguments after the kernel's launch, at any element interpretation: as they were. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) (r) (h : QC m ρ r) (c : Dev Cert.KernelIdeal.nD) (w : Fin Cert.KernelIdeal.cfg0.W)
    (hw : (Cert.KernelIdeal.cfg0.win w).isOut = false) :
    r.2.mem ((Cert.KernelIdeal.cfg0.win w).arr.view.loc (c.tc : Thread _ _)) = m ((Cert.KernelIdeal.cfg0.win w).arr.view.loc (c.tc : Thread _ _)) :=
  (h c w).trans (final_in m ρ c w hw)

/-- What the frame says of the kernel's program, at any element interpretation. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0) := (θ_run _ _ _).mono
  (fun r h => ⟨fun c => ⟨args_kept m ρ r h.1 c 0 rfl, args_kept m ρ r h.1 c 1 rfl, args_kept m ρ r h.1 c 2 rfl, args_kept m ρ r h.1 c 3 rfl,
    args_kept m ρ r h.1 c 4 rfl, args_kept m ρ r h.1 c 5 rfl, args_kept m ρ r h.1 c 6 rfl, args_kept m ρ r h.1 c 7 rfl⟩, h.2⟩)
  (run_main (F := F) m ρ)

/-- The two programs have the same text, so they run alike at any element interpretation. -/
theorem same_run {F : FTy → Type} [FloatOps F] (s : MemSt Cert.KernelIdeal.nD Cert.KernelIdeal.τ Cert.KernelIdeal.sig (Elt F))
    (Q : PUnit × MemSt Cert.KernelIdeal.nD Cert.KernelIdeal.τ Cert.KernelIdeal.sig (Elt F) → Prop) :
    (θ_run (Cert.Kernel.defs (F := F)) (onTc (τ := Cert.Kernel.τ) (Cert.Kernel.main (F := F))) s Q)
      = (θ_run (Cert.KernelIdeal.defs (F := F)) (onTc (τ := Cert.KernelIdeal.τ) (Cert.KernelIdeal.main (F := F))) s Q) := by
  sl_kernel_rfl

/-- The frame of the program read at bits, -/
theorem frame_kernel : Cert.quiescent_Kernel := fun m ρ _ => (same_run (F := Bits) _ _).mpr (frame_any (F := Bits) m ρ)

/-- and of the one read at extended reals. -/
theorem frame_ideal : Cert.quiescent_KernelIdeal := fun m ρ _ => frame_any (F := Ideal) m ρ

/-- The reference leaves its arguments, and has no semaphore. -/
theorem frame_reference : Cert.quiescent_ReferenceIdeal := fun m ρ _ => (θ_run Cert.ReferenceIdeal.defs _ _).mono
  (fun r h => ⟨fun c => (h c).2, sem_eq_zero_of_no_sems (by decide) r.2⟩) (Cert.ReferenceIdeal.Value.run (F := Ideal) m ρ)

/-- Every device leaves the reference's result. -/
theorem values : Cert.algebraic_KernelIdeal_ReferenceIdeal := fun m ρ m' ρ' _ hag =>
  ⟨Cert.ReferenceIdeal.Value.res_main_v37 m' 0,
   (θ_run _ _ _).mono (fun r h c => ⟨((h.1 c 8).trans (final_out m ρ c)).trans
      ((outAt_eq m ρ _ _ _ _ _ _ _ _ (fun c => (hag c).1) (fun c => (hag c).2.1) (fun c => (hag c).2.2.1) (fun c => (hag c).2.2.2.1) c
        (hag c).2.2.2.2.1 (hag c).2.2.2.2.2.1 (hag c).2.2.2.2.2.2.1 (hag c).2.2.2.2.2.2.2).trans (Cert.ReferenceIdeal.Stages.res_eq m' 0).symm),
      args_kept m ρ r h.1 c 0 rfl, args_kept m ρ r h.1 c 1 rfl, args_kept m ρ r h.1 c 2 rfl, args_kept m ρ r h.1 c 3 rfl,
      args_kept m ρ r h.1 c 4 rfl, args_kept m ρ r h.1 c 5 rfl, args_kept m ρ r h.1 c 6 rfl, args_kept m ρ r h.1 c 7 rfl⟩) (run_main (F := Ideal) m ρ),
   (θ_run _ _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
